-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_routed.lean ====
abbrev S32768x1024 : Shape := ⟨2, ![32768, 1024]⟩
abbrev S72704 : Shape := ⟨1, ![72704]⟩
abbrev S71 : Shape := ⟨1, ![71]⟩
abbrev S1 : Shape := ⟨1, ![1]⟩
abbrev S8x1024x3584 : Shape := ⟨3, ![8, 1024, 3584]⟩
abbrev S8x3584x1024 : Shape := ⟨3, ![8, 3584, 1024]⟩
abbrev S71x1024 : Shape := ⟨2, ![71, 1024]⟩
abbrev S71x1 : Shape := ⟨2, ![71, 1]⟩
abbrev S_ : Shape := ⟨0, ![]⟩
abbrev S1x1 : Shape := ⟨2, ![1, 1]⟩

class Facts : Prop where
  shapeCasts_S72704_S71x1024 : S72704.ShapeCasts S71x1024
  bcast_S71_S71x1_0 : S71.BroadcastsInDim S71x1 (![0] : Fin 1 → Fin S71x1.rank)
  bcast_S_S71x1024 : S_.BroadcastsInDim S71x1024 (![] : Fin 0 → Fin S71x1024.rank)
  bcast_S_S71x1 : S_.BroadcastsInDim S71x1 (![] : Fin 0 → Fin S71x1.rank)
  bcast_S71x1_S71x1024_0_1 : S71x1.BroadcastsInDim S71x1024 (![0, 1] : Fin 2 → Fin S71x1024.rank)
  bcast_S1_S1x1_1 : S1.BroadcastsInDim S1x1 (![1] : Fin 1 → Fin S1x1.rank)
  bcast_S_S1x1 : S_.BroadcastsInDim S1x1 (![] : Fin 0 → Fin S1x1.rank)
  bcast_S1x1_S71x1024_0_1 : S1x1.BroadcastsInDim S71x1024 (![0, 1] : Fin 2 → Fin S71x1024.rank)

variable [Facts]

def fn_part1 {F : FTy → Type} [FloatOps F] (main_v14 : IVec S71x1024 1) (main_v18 : IVec S71x1024 1) : IVec S71x1024 1 :=
  let main_v19 : IVec S71x1024 1 := andi main_v14 main_v18
  main_v19

def fn {F : FTy → Type} [FloatOps F] (main_arg0 : FVec F S32768x1024 .f32) (main_arg1 : IVec S72704 32) (main_arg2 : IVec S71 32) (main_arg3 : IVec S1 32) (main_arg4 : FVec F S8x1024x3584 .f32) (main_arg5 : FVec F S8x1024x3584 .f32) (main_arg6 : FVec F S8x3584x1024 .f32) : IVec S71x1024 1 :=
  let main_v0 : IVec S71x1024 32 := shapeCast S71x1024 main_arg1 shapeCasts_S72704_S71x1024
  let main_v1 : IVec S71x1 32 := broadcastInDim S71x1 ![0] bcast_S71_S71x1_0 main_arg2
  let main_c : IVec S_ 32 := constantI S_ 32 0#32
  let main_v2 : IVec S71x1024 32 := broadcastInDim S71x1024 ![] bcast_S_S71x1024 main_c
  let main_v3 : IVec S71x1024 1 := cmpi .sge main_v0 main_v2
  let main_c_0 : IVec S_ 32 := constantI S_ 32 32768#32
  let main_v4 : IVec S71x1024 32 := broadcastInDim S71x1024 ![] bcast_S_S71x1024 main_c_0
  let main_v5 : IVec S71x1024 1 := cmpi .slt main_v0 main_v4
  let main_v6 : IVec S71x1024 1 := andi main_v3 main_v5
  let main_c_1 : IVec S_ 32 := constantI S_ 32 0#32
  let main_v7 : IVec S71x1 32 := broadcastInDim S71x1 ![] bcast_S_S71x1 main_c_1
  let main_v8 : IVec S71x1 1 := cmpi .sge main_v1 main_v7
  let main_v9 : IVec S71x1024 1 := broadcastInDim S71x1024 ![0, 1] bcast_S71x1_S71x1024_0_1 main_v8
  let main_v10 : IVec S71x1024 1 := andi main_v6 main_v9
  let main_c_2 : IVec S_ 32 := constantI S_ 32 8#32
  let main_v11 : IVec S71x1 32 := broadcastInDim S71x1 ![] bcast_S_S71x1 main_c_2
  let main_v12 : IVec S71x1 1 := cmpi .slt main_v1 main_v11
  let main_v13 : IVec S71x1024 1 := broadcastInDim S71x1024 ![0, 1] bcast_S71x1_S71x1024_0_1 main_v12
  let main_v14 : IVec S71x1024 1 := andi main_v10 main_v13
  let main_v15 : IVec S1x1 32 := broadcastInDim S1x1 ![1] bcast_S1_S1x1_1 main_arg3
  let main_c_3 : IVec S_ 32 := constantI S_ 32 71#32
  let main_v16 : IVec S1x1 32 := broadcastInDim S1x1 ![] bcast_S_S1x1 main_c_3
  let main_v17 : IVec S1x1 1 := cmpi .sle main_v15 main_v16
  let main_v18 : IVec S71x1024 1 := broadcastInDim S71x1024 ![0, 1] bcast_S1x1_S71x1024_0_1 main_v17
  fn_part1 (F := F) main_v14 main_v18
-- ==== Kernel.lean ====
abbrev S32768x1024 : Shape := ⟨2, ![32768, 1024]⟩
abbrev S72704 : Shape := ⟨1, ![72704]⟩
abbrev S71 : Shape := ⟨1, ![71]⟩
abbrev S1 : Shape := ⟨1, ![1]⟩
abbrev S8x1024x3584 : Shape := ⟨3, ![8, 1024, 3584]⟩
abbrev S8x3584x1024 : Shape := ⟨3, ![8, 3584, 1024]⟩
abbrev S71x1x1024 : Shape := ⟨3, ![71, 1, 1024]⟩
abbrev S72704x1024 : Shape := ⟨2, ![72704, 1024]⟩
abbrev S1x1x1024 : Shape := ⟨3, ![1, 1, 1024]⟩
abbrev S1x1024x3584 : Shape := ⟨3, ![1, 1024, 3584]⟩
abbrev S1x3584x1024 : Shape := ⟨3, ![1, 3584, 1024]⟩
abbrev S1024x1024 : Shape := ⟨2, ![1024, 1024]⟩
abbrev S2x1024x1024 : Shape := ⟨3, ![2, 1024, 1024]⟩
abbrev S2 : Shape := ⟨1, ![2]⟩
abbrev S1x1x1 : Shape := ⟨3, ![1, 1, 1]⟩
abbrev S_ : Shape := ⟨0, ![]⟩
abbrev S1x1024x1024 : Shape := ⟨3, ![1, 1024, 1024]⟩
abbrev S1x1024 : Shape := ⟨2, ![1, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 10
  | .vmem => 7
  | .smem => 6
  | _ => 0

abbrev bufTy : (tb : Table) → Fin (tcTables nBuf tb) → BufTy
  | .hbm, ⟨0, _⟩ => ⟨S32768x1024, .f32⟩
  | .hbm, ⟨1, _⟩ => ⟨S72704, .i32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S71x1x1024, .i32⟩
  | .hbm, ⟨6, _⟩ => ⟨S8x1024x3584, .bf16⟩
  | .hbm, ⟨7, _⟩ => ⟨S8x1024x3584, .bf16⟩
  | .hbm, ⟨8, _⟩ => ⟨S8x3584x1024, .bf16⟩
  | .hbm, ⟨9, _⟩ => ⟨S72704x1024, .f32⟩
  | .local _ .vmem, ⟨0, _⟩ => ⟨S1x1024x3584, .bf16⟩
  | .local _ .vmem, ⟨1, _⟩ => ⟨S1x1024x3584, .bf16⟩
  | .local _ .vmem, ⟨2, _⟩ => ⟨S1x3584x1024, .bf16⟩
  | .local _ .vmem, ⟨3, _⟩ => ⟨S1024x1024, .f32⟩
  | .local _ .vmem, ⟨4, _⟩ => ⟨S1024x1024, .f32⟩
  | .local _ .vmem, ⟨5, _⟩ => ⟨S2x1024x1024, .f32⟩
  | .local _ .vmem, ⟨6, _⟩ => ⟨S1024x1024, .bf16⟩
  | .local _ .smem, ⟨0, _⟩ => ⟨S71, .i32⟩
  | .local _ .smem, ⟨1, _⟩ => ⟨S1, .i32⟩
  | .local _ .smem, ⟨2, _⟩ => ⟨S1x1x1024, .i32⟩
  | .local _ .smem, ⟨3, _⟩ => ⟨S1x1x1024, .i32⟩
  | .local _ .smem, ⟨4, _⟩ => ⟨S1x1x1024, .i32⟩
  | .local _ .smem, ⟨5, _⟩ => ⟨S1x1x1024, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg2 : Ref sig .tc := ⟨.smem, 0, rfl⟩
abbrev main_arg3 : Ref sig .tc := ⟨.smem, 1, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![71], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_15 : BitVec 32 := 0#32
  let c1024_i32 : BitVec 32 := 1024#32
  let v29 : BitVec 32 := Scalar.addi c0_i32_15 c1024_i32
  let c1_i32_16 : BitVec 32 := 1#32
  ⟨c0_i32_15, v29, c1_i32_16⟩
def k0_off2 (k0_t1 : Fin k0_t1_loop.trips) : Fin 3 → Nat :=
  let c0_20 : Index := 0#32
  let c0_21 : Index := 0#32
  let c1_i32_18 : BitVec 32 := 1#32
  let c0_i32_15 : BitVec 32 := 0#32
  let c1_i32_16 : BitVec 32 := 1#32
  let arg13 : BitVec 32 := Scf.iv c0_i32_15 c1_i32_16 k0_t1
  let v30 : BitVec 32 := Scalar.muli c1_i32_18 arg13
  let c0_i32_19 : BitVec 32 := 0#32
  let v31 : BitVec 32 := Scalar.addi v30 c0_i32_19
  let v32 : Index := Scalar.indexCast v31
  ![0, 0, v32.toNat]
def k0_off3 (k0_t1 : Fin k0_t1_loop.trips) : Fin 2 → Nat :=
  let c0_i32_15 : BitVec 32 := 0#32
  let c1_i32_16 : BitVec 32 := 1#32
  let arg13 : BitVec 32 := Scf.iv c0_i32_15 c1_i32_16 k0_t1
  let c0_i32_24 : BitVec 32 := 0#32
  ![arg13.toNat, 0]
def k0_off4 (v33 : BitVec 32) : Fin 2 → Nat :=
  let c0_i32_25 : BitVec 32 := 0#32
  ![v33.toNat, 0]
def k0_cond1 (i : grid0.Coords) (v11 : BitVec 32) : BitVec 1 :=
  let arg0 : BitVec 32 := BitVec.ofNat 32 (i 0).val
  let c0_i32_3 : BitVec 32 := 0#32
  let v10 : BitVec 1 := Scalar.cmpi .eq arg0 c0_i32_3
  let c0_i32_4 : BitVec 32 := 0#32
  let v12 : BitVec 1 := Scalar.cmpi .sgt v11 c0_i32_4
  let v13 : BitVec 1 := Scalar.andi v10 v12
  let v14 : BitVec 32 := Scalar.extui v13
  let c0_i32_5 : BitVec 32 := 0#32
  let v15 : BitVec 1 := Scalar.cmpi .ne v14 c0_i32_5
  v15

def k0_chk1 (i : grid0.Coords) (v11 : BitVec 32) (v33 : BitVec 32) : Prop :=
  (∀ (k0_h1 : k0_cond1 i v11 = 1#1), ∀ a, (k0_off4 v33) a + S1x1024.size a ≤ S32768x1024.size a)
theorem k0_off4_inb : ∀ (i : grid0.Coords) (v11 : BitVec 32) (v33 : BitVec 32) (k0_hw1 : k0_chk1 i v11 v33), ∀ (k0_h1 : k0_cond1 i v11 = 1#1), ∀ a, (k0_off4 v33) a + S1x1024.size a ≤ S32768x1024.size a := fun i v11 v33 k0_hw1 k0_h1 => k0_hw1 k0_h1

@[reducible] def k0_t2_loop : Scf.Loop 32 :=
  let c0_i32_15 : BitVec 32 := 0#32
  let c1024_i32 : BitVec 32 := 1024#32
  let v31 : BitVec 32 := Scalar.addi c0_i32_15 c1024_i32
  let c1_i32_16 : BitVec 32 := 1#32
  ⟨c0_i32_15, v31, c1_i32_16⟩
def k0_off5 (k0_t2 : Fin k0_t2_loop.trips) : Fin 3 → Nat :=
  let c0_20 : Index := 0#32
  let c0_21 : Index := 0#32
  let c1_i32_18 : BitVec 32 := 1#32
  let c0_i32_15 : BitVec 32 := 0#32
  let c1_i32_16 : BitVec 32 := 1#32
  let arg13 : BitVec 32 := Scf.iv c0_i32_15 c1_i32_16 k0_t2
  let v32 : BitVec 32 := Scalar.muli c1_i32_18 arg13
  let c0_i32_19 : BitVec 32 := 0#32
  let v33 : BitVec 32 := Scalar.addi v32 c0_i32_19
  let v34 : Index := Scalar.indexCast v33
  ![0, 0, v34.toNat]
def k0_off6 (i : grid0.Coords) : Fin 1 → Nat :=
  let c1_i32_14 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : BitVec 32 := Scalar.subi c1_i32_14 v9
  ![v30.toNat]
def k0_off7 (i : grid0.Coords) : Fin 3 → Nat :=
  let c1_i32_13 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v29 : BitVec 32 := Scalar.subi c1_i32_13 v9
  let c0_i32_22 : BitVec 32 := 0#32
  let c0_i32_23 : BitVec 32 := 0#32
  ![v29.toNat, 0, 0]
def k0_off8 (k0_t2 : Fin k0_t2_loop.trips) : Fin 2 → Nat :=
  let c0_i32_15 : BitVec 32 := 0#32
  let c1_i32_16 : BitVec 32 := 1#32
  let arg13 : BitVec 32 := Scf.iv c0_i32_15 c1_i32_16 k0_t2
  let c0_i32_24 : BitVec 32 := 0#32
  ![arg13.toNat, 0]
def k0_off9 (v35 : BitVec 32) : Fin 2 → Nat :=
  let c0_i32_25 : BitVec 32 := 0#32
  ![v35.toNat, 0]
def k0_cond2 (i : grid0.Coords) (v17 : BitVec 32) : BitVec 1 :=
  let arg0 : BitVec 32 := BitVec.ofNat 32 (i 0).val
  let c1_i32_6 : BitVec 32 := 1#32
  let v16 : BitVec 32 := Scalar.addi arg0 c1_i32_6
  let v18 : BitVec 1 := Scalar.cmpi .slt v16 v17
  let v19 : BitVec 32 := Scalar.extui v18
  let c0_i32_8 : BitVec 32 := 0#32
  let v20 : BitVec 1 := Scalar.cmpi .ne v19 c0_i32_8
  v20

def k0_chk2 (i : grid0.Coords) (v17 : BitVec 32) (v35 : BitVec 32) : Prop :=
  (∀ (k0_h2 : k0_cond2 i v17 = 1#1), ∀ a, (k0_off9 v35) a + S1x1024.size a ≤ S32768x1024.size a)
theorem k0_off9_inb : ∀ (i : grid0.Coords) (v17 : BitVec 32) (v35 : BitVec 32) (k0_hw2 : k0_chk2 i v17 v35), ∀ (k0_h2 : k0_cond2 i v17 = 1#1), ∀ a, (k0_off9 v35) a + S1x1024.size a ≤ S32768x1024.size a := fun i v17 v35 k0_hw2 k0_h2 => k0_hw2 k0_h2

@[reducible] def k0_t3_loop : Scf.Loop 32 :=
  let c0_i32_13 : BitVec 32 := 0#32
  let c1024_i32 : BitVec 32 := 1024#32
  let v29 : BitVec 32 := Scalar.addi c0_i32_13 c1024_i32
  let c1_i32_14 : BitVec 32 := 1#32
  ⟨c0_i32_13, v29, c1_i32_14⟩
def k0_off10 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_298 : BitVec 32 := 0#32
  let c0_i32_299 : BitVec 32 := 0#32
  ![v9.toNat, 0, 0]
def k0_off12 (k0_t3 : Fin k0_t3_loop.trips) : Fin 2 → Nat :=
  let c0_i32_13 : BitVec 32 := 0#32
  let c1_i32_14 : BitVec 32 := 1#32
  let arg13 : BitVec 32 := Scf.iv c0_i32_13 c1_i32_14 k0_t3
  let c0_i32_300 : BitVec 32 := 0#32
  ![arg13.toNat, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v30 : Index := Scalar.indexCast v9
  let c0_16 : Index := 0#32
  let c0_17 : Index := 0#32
  ![v30.toNat, 0, 0]
def k0_cond3 (i : grid0.Coords) (v21 : BitVec 32) : BitVec 1 :=
  let arg0 : BitVec 32 := BitVec.ofNat 32 (i 0).val
  let v22 : BitVec 1 := Scalar.cmpi .slt arg0 v21
  let v23 : BitVec 32 := Scalar.extui v22
  let c0_i32_10 : BitVec 32 := 0#32
  let v24 : BitVec 1 := Scalar.cmpi .ne v23 c0_i32_10
  v24

def k0_cond4 (i : grid0.Coords) (v25 : BitVec 32) : BitVec 1 :=
  let arg0 : BitVec 32 := BitVec.ofNat 32 (i 0).val
  let v26 : BitVec 1 := Scalar.cmpi .sge arg0 v25
  let v27 : BitVec 32 := Scalar.extui v26
  let c0_i32_12 : BitVec 32 := 0#32
  let v28 : BitVec 1 := Scalar.cmpi .ne v27 c0_i32_12
  v28

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c70_i32 : BitVec 32 := 70#32
  let v1 : BitVec 32 := Scalar.minsi v0 c70_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c70_i32 : BitVec 32 := 70#32
  let v1 : BitVec 32 := Scalar.minsi v0 c70_i32
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S71.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S71) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3584x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32768x1024 : Shape := ⟨2, ![32768, 1024]⟩
abbrev S72704 : Shape := ⟨1, ![72704]⟩
abbrev S71 : Shape := ⟨1, ![71]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩
abbrev S72704x1 : Shape := ⟨2, ![72704, 1]⟩
abbrev S72704x1024 : Shape := ⟨2, ![72704, 1024]⟩
abbrev S71x1 : Shape := ⟨2, ![71, 1]⟩
abbrev S71x1024 : Shape := ⟨2, ![71, 1024]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S72704x3584 : Shape := ⟨2, ![72704, 3584]⟩

abbrev nBuf : Space → Nat
  | .hbm => 267
  | .vmem => 0
  | .smem => 0
  | _ => 0

abbrev hbmTy0_0 (i : Nat) : BufTy := match i % 128 with
  | 0 => ⟨S32768x1024, .f32⟩
  | 1 => ⟨S72704, .i32⟩
  | 2 => ⟨S71, .i32⟩
  | 3 => ⟨S1, .i32⟩
  | 4 => ⟨S8x1024x3584, .f32⟩
  | 5 => ⟨S8x1024x3584, .f32⟩
  | 6 => ⟨S8x3584x1024, .f32⟩
  | 7 => ⟨S_, .i32⟩
  | 8 => ⟨S72704, .i32⟩
  | 9 => ⟨S72704, .i1⟩
  | 10 => ⟨S_, .i32⟩
  | 11 => ⟨S72704, .i32⟩
  | 12 => ⟨S72704, .i32⟩
  | 13 => ⟨S72704, .i32⟩
  | 14 => ⟨S72704x1, .i32⟩
  | 15 => ⟨S72704x1024, .f32⟩
  | 16 => ⟨S71x1, .i32⟩
  | 17 => ⟨S71x1024, .i32⟩
  | 18 => ⟨S72704, .i32⟩
  | 19 => ⟨S71, .i32⟩
  | 20 => ⟨S71, .i32⟩
  | 21 => ⟨S71, .i1⟩
  | 22 => ⟨S71x1, .i1⟩
  | 23 => ⟨S71x1024, .i1⟩
  | 24 => ⟨S72704, .i1⟩
  | 25 => ⟨S_, .f32⟩
  | 26 => ⟨S72704x1024, .f32⟩
  | 27 => ⟨S_, .i32⟩
  | 28 => ⟨S72704, .i32⟩
  | 29 => ⟨S72704, .i1⟩
  | 30 => ⟨S72704, .i1⟩
  | 31 => ⟨S72704x1, .i1⟩
  | 32 => ⟨S1x1024x3584, .f32⟩
  | 33 => ⟨S1024x3584, .f32⟩
  | 34 => ⟨S1x1024x3584, .f32⟩
  | 35 => ⟨S1024x3584, .f32⟩
  | 36 => ⟨S1x3584x1024, .f32⟩
  | 37 => ⟨S3584x1024, .f32⟩
  | 38 => ⟨S72704x3584, .f32⟩
  | 39 => ⟨S72704x3584, .f32⟩
  | 40 => ⟨S72704x3584, .f32⟩
  | 41 => ⟨S_, .f32⟩
  | 42 => ⟨S72704x3584, .f32⟩
  | 43 => ⟨S72704x3584, .f32⟩
  | 44 => ⟨S_, .f32⟩
  | 45 => ⟨S72704x3584, .f32⟩
  | 46 => ⟨S72704x3584, .f32⟩
  | 47 => ⟨S72704x3584, .f32⟩
  | 48 => ⟨S72704x3584, .f32⟩
  | 49 => ⟨S72704x3584, .f32⟩
  | 50 => ⟨S72704x1024, .f32⟩
  | 51 => ⟨S_, .f32⟩
  | 52 => ⟨S_, .f32⟩
  | 53 => ⟨S72704x1024, .i1⟩
  | 54 => ⟨S72704x1024, .f32⟩
  | 55 => ⟨S72704x1024, .f32⟩
  | 56 => ⟨S72704x1024, .f32⟩
  | 57 => ⟨S_, .i32⟩
  | 58 => ⟨S72704, .i32⟩
  | 59 => ⟨S72704, .i1⟩
  | 60 => ⟨S72704, .i1⟩
  | 61 => ⟨S72704x1, .i1⟩
  | 62 => ⟨S1x1024x3584, .f32⟩
  | 63 => ⟨S1024x3584, .f32⟩
  | 64 => ⟨S1x1024x3584, .f32⟩
  | 65 => ⟨S1024x3584, .f32⟩
  | 66 => ⟨S1x3584x1024, .f32⟩
  | 67 => ⟨S3584x1024, .f32⟩
  | 68 => ⟨S72704x3584, .f32⟩
  | 69 => ⟨S72704x3584, .f32⟩
  | 70 => ⟨S72704x3584, .f32⟩
  | 71 => ⟨S_, .f32⟩
  | 72 => ⟨S72704x3584, .f32⟩
  | 73 => ⟨S72704x3584, .f32⟩
  | 74 => ⟨S_, .f32⟩
  | 75 => ⟨S72704x3584, .f32⟩
  | 76 => ⟨S72704x3584, .f32⟩
  | 77 => ⟨S72704x3584, .f32⟩
  | 78 => ⟨S72704x3584, .f32⟩
  | 79 => ⟨S72704x3584, .f32⟩
  | 80 => ⟨S72704x1024, .f32⟩
  | 81 => ⟨S_, .f32⟩
  | 82 => ⟨S_, .f32⟩
  | 83 => ⟨S72704x1024, .i1⟩
  | 84 => ⟨S72704x1024, .f32⟩
  | 85 => ⟨S72704x1024, .f32⟩
  | 86 => ⟨S72704x1024, .f32⟩
  | 87 => ⟨S_, .i32⟩
  | 88 => ⟨S72704, .i32⟩
  | 89 => ⟨S72704, .i1⟩
  | 90 => ⟨S72704, .i1⟩
  | 91 => ⟨S72704x1, .i1⟩
  | 92 => ⟨S1x1024x3584, .f32⟩
  | 93 => ⟨S1024x3584, .f32⟩
  | 94 => ⟨S1x1024x3584, .f32⟩
  | 95 => ⟨S1024x3584, .f32⟩
  | 96 => ⟨S1x3584x1024, .f32⟩
  | 97 => ⟨S3584x1024, .f32⟩
  | 98 => ⟨S72704x3584, .f32⟩
  | 99 => ⟨S72704x3584, .f32⟩
  | 100 => ⟨S72704x3584, .f32⟩
  | 101 => ⟨S_, .f32⟩
  | 102 => ⟨S72704x3584, .f32⟩
  | 103 => ⟨S72704x3584, .f32⟩
  | 104 => ⟨S_, .f32⟩
  | 105 => ⟨S72704x3584, .f32⟩
  | 106 => ⟨S72704x3584, .f32⟩
  | 107 => ⟨S72704x3584, .f32⟩
  | 108 => ⟨S72704x3584, .f32⟩
  | 109 => ⟨S72704x3584, .f32⟩
  | 110 => ⟨S72704x1024, .f32⟩
  | 111 => ⟨S_, .f32⟩
  | 112 => ⟨S_, .f32⟩
  | 113 => ⟨S72704x1024, .i1⟩
  | 114 => ⟨S72704x1024, .f32⟩
  | 115 => ⟨S72704x1024, .f32⟩
  | 116 => ⟨S72704x1024, .f32⟩
  | 117 => ⟨S_, .i32⟩
  | 118 => ⟨S72704, .i32⟩
  | 119 => ⟨S72704, .i1⟩
  | 120 => ⟨S72704, .i1⟩
  | 121 => ⟨S72704x1, .i1⟩
  | 122 => ⟨S1x1024x3584, .f32⟩
  | 123 => ⟨S1024x3584, .f32⟩
  | 124 => ⟨S1x1024x3584, .f32⟩
  | 125 => ⟨S1024x3584, .f32⟩
  | 126 => ⟨S1x3584x1024, .f32⟩
  | 127 => ⟨S3584x1024, .f32⟩
  | _ => ⟨S32768x1024, .f32⟩

abbrev hbmTy0_1 (i : Nat) : BufTy := match i % 128 with
  | 0 => ⟨S72704x3584, .f32⟩
  | 1 => ⟨S72704x3584, .f32⟩
  | 2 => ⟨S72704x3584, .f32⟩
  | 3 => ⟨S_, .f32⟩
  | 4 => ⟨S72704x3584, .f32⟩
  | 5 => ⟨S72704x3584, .f32⟩
  | 6 => ⟨S_, .f32⟩
  | 7 => ⟨S72704x3584, .f32⟩
  | 8 => ⟨S72704x3584, .f32⟩
  | 9 => ⟨S72704x3584, .f32⟩
  | 10 => ⟨S72704x3584, .f32⟩
  | 11 => ⟨S72704x3584, .f32⟩
  | 12 => ⟨S72704x1024, .f32⟩
  | 13 => ⟨S_, .f32⟩
  | 14 => ⟨S_, .f32⟩
  | 15 => ⟨S72704x1024, .i1⟩
  | 16 => ⟨S72704x1024, .f32⟩
  | 17 => ⟨S72704x1024, .f32⟩
  | 18 => ⟨S72704x1024, .f32⟩
  | 19 => ⟨S_, .i32⟩
  | 20 => ⟨S72704, .i32⟩
  | 21 => ⟨S72704, .i1⟩
  | 22 => ⟨S72704, .i1⟩
  | 23 => ⟨S72704x1, .i1⟩
  | 24 => ⟨S1x1024x3584, .f32⟩
  | 25 => ⟨S1024x3584, .f32⟩
  | 26 => ⟨S1x1024x3584, .f32⟩
  | 27 => ⟨S1024x3584, .f32⟩
  | 28 => ⟨S1x3584x1024, .f32⟩
  | 29 => ⟨S3584x1024, .f32⟩
  | 30 => ⟨S72704x3584, .f32⟩
  | 31 => ⟨S72704x3584, .f32⟩
  | 32 => ⟨S72704x3584, .f32⟩
  | 33 => ⟨S_, .f32⟩
  | 34 => ⟨S72704x3584, .f32⟩
  | 35 => ⟨S72704x3584, .f32⟩
  | 36 => ⟨S_, .f32⟩
  | 37 => ⟨S72704x3584, .f32⟩
  | 38 => ⟨S72704x3584, .f32⟩
  | 39 => ⟨S72704x3584, .f32⟩
  | 40 => ⟨S72704x3584, .f32⟩
  | 41 => ⟨S72704x3584, .f32⟩
  | 42 => ⟨S72704x1024, .f32⟩
  | 43 => ⟨S_, .f32⟩
  | 44 => ⟨S_, .f32⟩
  | 45 => ⟨S72704x1024, .i1⟩
  | 46 => ⟨S72704x1024, .f32⟩
  | 47 => ⟨S72704x1024, .f32⟩
  | 48 => ⟨S72704x1024, .f32⟩
  | 49 => ⟨S_, .i32⟩
  | 50 => ⟨S72704, .i32⟩
  | 51 => ⟨S72704, .i1⟩
  | 52 => ⟨S72704, .i1⟩
  | 53 => ⟨S72704x1, .i1⟩
  | 54 => ⟨S1x1024x3584, .f32⟩
  | 55 => ⟨S1024x3584, .f32⟩
  | 56 => ⟨S1x1024x3584, .f32⟩
  | 57 => ⟨S1024x3584, .f32⟩
  | 58 => ⟨S1x3584x1024, .f32⟩
  | 59 => ⟨S3584x1024, .f32⟩
  | 60 => ⟨S72704x3584, .f32⟩
  | 61 => ⟨S72704x3584, .f32⟩
  | 62 => ⟨S72704x3584, .f32⟩
  | 63 => ⟨S_, .f32⟩
  | 64 => ⟨S72704x3584, .f32⟩
  | 65 => ⟨S72704x3584, .f32⟩
  | 66 => ⟨S_, .f32⟩
  | 67 => ⟨S72704x3584, .f32⟩
  | 68 => ⟨S72704x3584, .f32⟩
  | 69 => ⟨S72704x3584, .f32⟩
  | 70 => ⟨S72704x3584, .f32⟩
  | 71 => ⟨S72704x3584, .f32⟩
  | 72 => ⟨S72704x1024, .f32⟩
  | 73 => ⟨S_, .f32⟩
  | 74 => ⟨S_, .f32⟩
  | 75 => ⟨S72704x1024, .i1⟩
  | 76 => ⟨S72704x1024, .f32⟩
  | 77 => ⟨S72704x1024, .f32⟩
  | 78 => ⟨S72704x1024, .f32⟩
  | 79 => ⟨S_, .i32⟩
  | 80 => ⟨S72704, .i32⟩
  | 81 => ⟨S72704, .i1⟩
  | 82 => ⟨S72704, .i1⟩
  | 83 => ⟨S72704x1, .i1⟩
  | 84 => ⟨S1x1024x3584, .f32⟩
  | 85 => ⟨S1024x3584, .f32⟩
  | 86 => ⟨S1x1024x3584, .f32⟩
  | 87 => ⟨S1024x3584, .f32⟩
  | 88 => ⟨S1x3584x1024, .f32⟩
  | 89 => ⟨S3584x1024, .f32⟩
  | 90 => ⟨S72704x3584, .f32⟩
  | 91 => ⟨S72704x3584, .f32⟩
  | 92 => ⟨S72704x3584, .f32⟩
  | 93 => ⟨S_, .f32⟩
  | 94 => ⟨S72704x3584, .f32⟩
  | 95 => ⟨S72704x3584, .f32⟩
  | 96 => ⟨S_, .f32⟩
  | 97 => ⟨S72704x3584, .f32⟩
  | 98 => ⟨S72704x3584, .f32⟩
  | 99 => ⟨S72704x3584, .f32⟩
  | 100 => ⟨S72704x3584, .f32⟩
  | 101 => ⟨S72704x3584, .f32⟩
  | 102 => ⟨S72704x1024, .f32⟩
  | 103 => ⟨S_, .f32⟩
  | 104 => ⟨S_, .f32⟩
  | 105 => ⟨S72704x1024, .i1⟩
  | 106 => ⟨S72704x1024, .f32⟩
  | 107 => ⟨S72704x1024, .f32⟩
  | 108 => ⟨S72704x1024, .f32⟩
  | 109 => ⟨S_, .i32⟩
  | 110 => ⟨S72704, .i32⟩
  | 111 => ⟨S72704, .i1⟩
  | 112 => ⟨S72704, .i1⟩
  | 113 => ⟨S72704x1, .i1⟩
  | 114 => ⟨S1x1024x3584, .f32⟩
  | 115 => ⟨S1024x3584, .f32⟩
  | 116 => ⟨S1x1024x3584, .f32⟩
  | 117 => ⟨S1024x3584, .f32⟩
  | 118 => ⟨S1x3584x1024, .f32⟩
  | 119 => ⟨S3584x1024, .f32⟩
  | 120 => ⟨S72704x3584, .f32⟩
  | 121 => ⟨S72704x3584, .f32⟩
  | 122 => ⟨S72704x3584, .f32⟩
  | 123 => ⟨S_, .f32⟩
  | 124 => ⟨S72704x3584, .f32⟩
  | 125 => ⟨S72704x3584, .f32⟩
  | 126 => ⟨S_, .f32⟩
  | 127 => ⟨S72704x3584, .f32⟩
  | _ => ⟨S32768x1024, .f32⟩

abbrev hbmTy0_2 (i : Nat) : BufTy := match i % 128 with
  | 0 => ⟨S72704x3584, .f32⟩
  | 1 => ⟨S72704x3584, .f32⟩
  | 2 => ⟨S72704x3584, .f32⟩
  | 3 => ⟨S72704x3584, .f32⟩
  | 4 => ⟨S72704x1024, .f32⟩
  | 5 => ⟨S_, .f32⟩
  | 6 => ⟨S_, .f32⟩
  | 7 => ⟨S72704x1024, .i1⟩
  | 8 => ⟨S72704x1024, .f32⟩
  | 9 => ⟨S72704x1024, .f32⟩
  | 10 => ⟨S72704x1024, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v32 : Ref sig .tc := ⟨.hbm, 55, rfl⟩
abbrev main_v33 : Ref sig .tc := ⟨.hbm, 56, rfl⟩
abbrev main_c_3 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_call2_v5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_4 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v49 : Ref sig .tc := ⟨.hbm, 85, rfl⟩
abbrev main_v50 : Ref sig .tc := ⟨.hbm, 86, rfl⟩
abbrev main_c_5 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_call4_v0 : Ref sig .tc := ⟨.hbm, 99, rfl⟩
abbrev main_call4_v1 : Ref sig .tc := ⟨.hbm, 100, rfl⟩
abbrev main_call4_cst : Ref sig .tc := ⟨.hbm, 101, rfl⟩
abbrev main_call4_v2 : Ref sig .tc := ⟨.hbm, 102, rfl⟩
abbrev main_call4_v3 : Ref sig .tc := ⟨.hbm, 103, rfl⟩
abbrev main_call4_cst_0 : Ref sig .tc := ⟨.hbm, 104, rfl⟩
abbrev main_call4_v4 : Ref sig .tc := ⟨.hbm, 105, rfl⟩
abbrev main_call4_v5 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_6 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v66 : Ref sig .tc := ⟨.hbm, 115, rfl⟩
abbrev main_v67 : Ref sig .tc := ⟨.hbm, 116, rfl⟩
abbrev main_c_7 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_call6_v0 : Ref sig .tc := ⟨.hbm, 129, rfl⟩
abbrev main_call6_v1 : Ref sig .tc := ⟨.hbm, 130, rfl⟩
abbrev main_call6_cst : Ref sig .tc := ⟨.hbm, 131, rfl⟩
abbrev main_call6_v2 : Ref sig .tc := ⟨.hbm, 132, rfl⟩
abbrev main_call6_v3 : Ref sig .tc := ⟨.hbm, 133, rfl⟩
abbrev main_call6_cst_0 : Ref sig .tc := ⟨.hbm, 134, rfl⟩
abbrev main_call6_v4 : Ref sig .tc := ⟨.hbm, 135, rfl⟩
abbrev main_call6_v5 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_8 : Ref sig .tc := ⟨.hbm, 141, rfl⟩
abbrev main_call7_v0 : Ref sig .tc := ⟨.hbm, 142, rfl⟩
abbrev main_call7_v1 : Ref sig .tc := ⟨.hbm, 143, rfl⟩
abbrev main_call7_v2 : Ref sig .tc := ⟨.hbm, 144, rfl⟩
abbrev main_v83 : Ref sig .tc := ⟨.hbm, 145, rfl⟩
abbrev main_v84 : Ref sig .tc := ⟨.hbm, 146, rfl⟩
abbrev main_c_9 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_call8_v0 : Ref sig .tc := ⟨.hbm, 159, rfl⟩
abbrev main_call8_v1 : Ref sig .tc := ⟨.hbm, 160, rfl⟩
abbrev main_call8_cst : Ref sig .tc := ⟨.hbm, 161, rfl⟩
abbrev main_call8_v2 : Ref sig .tc := ⟨.hbm, 162, rfl⟩
abbrev main_call8_v3 : Ref sig .tc := ⟨.hbm, 163, rfl⟩
abbrev main_call8_cst_0 : Ref sig .tc := ⟨.hbm, 164, rfl⟩
abbrev main_call8_v4 : Ref sig .tc := ⟨.hbm, 165, rfl⟩
abbrev main_call8_v5 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_cst_10 : Ref sig .tc := ⟨.hbm, 171, rfl⟩
abbrev main_call9_v0 : Ref sig .tc := ⟨.hbm, 172, rfl⟩
abbrev main_call9_v1 : Ref sig .tc := ⟨.hbm, 173, rfl⟩
abbrev main_call9_v2 : Ref sig .tc := ⟨.hbm, 174, rfl⟩
abbrev main_v100 : Ref sig .tc := ⟨.hbm, 175, rfl⟩
abbrev main_v101 : Ref sig .tc := ⟨.hbm, 176, rfl⟩
abbrev main_c_11 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_call10_v0 : Ref sig .tc := ⟨.hbm, 189, rfl⟩
abbrev main_call10_v1 : Ref sig .tc := ⟨.hbm, 190, rfl⟩
abbrev main_call10_cst : Ref sig .tc := ⟨.hbm, 191, rfl⟩
abbrev main_call10_v2 : Ref sig .tc := ⟨.hbm, 192, rfl⟩
abbrev main_call10_v3 : Ref sig .tc := ⟨.hbm, 193, rfl⟩
abbrev main_call10_cst_0 : Ref sig .tc := ⟨.hbm, 194, rfl⟩
abbrev main_call10_v4 : Ref sig .tc := ⟨.hbm, 195, rfl⟩
abbrev main_call10_v5 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_cst_12 : Ref sig .tc := ⟨.hbm, 201, rfl⟩
abbrev main_call11_v0 : Ref sig .tc := ⟨.hbm, 202, rfl⟩
abbrev main_call11_v1 : Ref sig .tc := ⟨.hbm, 203, rfl⟩
abbrev main_call11_v2 : Ref sig .tc := ⟨.hbm, 204, rfl⟩
abbrev main_v117 : Ref sig .tc := ⟨.hbm, 205, rfl⟩
abbrev main_v118 : Ref sig .tc := ⟨.hbm, 206, rfl⟩
abbrev main_c_13 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_call12_v0 : Ref sig .tc := ⟨.hbm, 219, rfl⟩
abbrev main_call12_v1 : Ref sig .tc := ⟨.hbm, 220, rfl⟩
abbrev main_call12_cst : Ref sig .tc := ⟨.hbm, 221, rfl⟩
abbrev main_call12_v2 : Ref sig .tc := ⟨.hbm, 222, rfl⟩
abbrev main_call12_v3 : Ref sig .tc := ⟨.hbm, 223, rfl⟩
abbrev main_call12_cst_0 : Ref sig .tc := ⟨.hbm, 224, rfl⟩
abbrev main_call12_v4 : Ref sig .tc := ⟨.hbm, 225, rfl⟩
abbrev main_call12_v5 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_cst_14 : Ref sig .tc := ⟨.hbm, 231, rfl⟩
abbrev main_call13_v0 : Ref sig .tc := ⟨.hbm, 232, rfl⟩
abbrev main_call13_v1 : Ref sig .tc := ⟨.hbm, 233, rfl⟩
abbrev main_call13_v2 : Ref sig .tc := ⟨.hbm, 234, rfl⟩
abbrev main_v134 : Ref sig .tc := ⟨.hbm, 235, rfl⟩
abbrev main_v135 : Ref sig .tc := ⟨.hbm, 236, rfl⟩
abbrev main_c_15 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_call14_v0 : Ref sig .tc := ⟨.hbm, 249, rfl⟩
abbrev main_call14_v1 : Ref sig .tc := ⟨.hbm, 250, rfl⟩
abbrev main_call14_cst : Ref sig .tc := ⟨.hbm, 251, rfl⟩
abbrev main_call14_v2 : Ref sig .tc := ⟨.hbm, 252, rfl⟩
abbrev main_call14_v3 : Ref sig .tc := ⟨.hbm, 253, rfl⟩
abbrev main_call14_cst_0 : Ref sig .tc := ⟨.hbm, 254, rfl⟩
abbrev main_call14_v4 : Ref sig .tc := ⟨.hbm, 255, rfl⟩
abbrev main_call14_v5 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_v150 : Ref sig .tc := ⟨.hbm, 260, rfl⟩
abbrev main_cst_16 : Ref sig .tc := ⟨.hbm, 261, rfl⟩
abbrev main_call15_v0 : Ref sig .tc := ⟨.hbm, 262, rfl⟩
abbrev main_call15_v1 : Ref sig .tc := ⟨.hbm, 263, rfl⟩
abbrev main_call15_v2 : Ref sig .tc := ⟨.hbm, 264, rfl⟩
abbrev main_v151 : Ref sig .tc := ⟨.hbm, 265, rfl⟩
abbrev main_v152 : Ref sig .tc := ⟨.hbm, 266, rfl⟩

abbrev nD : Nat := 1
abbrev τ : Topo := Topo.v7x

variable {F : FTy → Type} [FloatOps F]
-- ==== Kernel2.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel3.lean ====
abbrev S32768x1024 : Shape := ⟨2, ![32768, 1024]⟩
abbrev S1024x3080 : Shape := ⟨2, ![1024, 3080]⟩
abbrev S_ : Shape := ⟨0, ![]⟩
abbrev S1024x3200 : Shape := ⟨2, ![1024, 3200]⟩
abbrev S32768x3200 : Shape := ⟨2, ![32768, 3200]⟩
abbrev S512x1024 : Shape := ⟨2, ![512, 1024]⟩
abbrev S512x3200 : Shape := ⟨2, ![512, 3200]⟩

abbrev nBuf : Space → Nat
  | .hbm => 7
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x3080, .f32⟩
  | .hbm, ⟨2, _⟩ => ⟨S_, .i32⟩
  | .hbm, ⟨3, _⟩ => ⟨S_, .f32⟩
  | .hbm, ⟨4, _⟩ => ⟨S1024x3200, .f32⟩
  | .hbm, ⟨5, _⟩ => ⟨S1024x3200, .bf16⟩
  | .hbm, ⟨6, _⟩ => ⟨S32768x3200, .f32⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S512x3200, .f32⟩
  | .local _ .vmem, ⟨4, _⟩ => ⟨S512x3200, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S32768x1024 : Shape := ⟨2, ![32768, 1024]⟩
abbrev S1024x3080 : Shape := ⟨2, ![1024, 3080]⟩
abbrev S32768x3080 : Shape := ⟨2, ![32768, 3080]⟩
abbrev S_ : Shape := ⟨0, ![]⟩
abbrev S32768x3200 : Shape := ⟨2, ![32768, 3200]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3080, .f32⟩
  | .hbm, ⟨2, _⟩ => ⟨S32768x3080, .f32⟩
  | .hbm, ⟨3, _⟩ => ⟨S_, .i32⟩
  | .hbm, ⟨4, _⟩ => ⟨S_, .f32⟩
  | .hbm, ⟨5, _⟩ => ⟨S32768x3200, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .bf16⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel5.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x8 : Shape := ⟨2, ![1024, 8]⟩
abbrev S1x1024 : Shape := ⟨2, ![1, 1024]⟩
abbrev S_ : Shape := ⟨0, ![]⟩
abbrev S1024x128 : Shape := ⟨2, ![1024, 128]⟩
abbrev S32768x128 : Shape := ⟨2, ![32768, 128]⟩
abbrev S8x128 : Shape := ⟨2, ![8, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S128 : Shape := ⟨1, ![128]⟩

abbrev nBuf : Space → Nat
  | .hbm => 17
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x8, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S32768x1024, .f32⟩
  | .hbm, ⟨14, _⟩ => ⟨S32768x128, .i32⟩
  | .hbm, ⟨15, _⟩ => ⟨S32768x128, .f32⟩
  | .hbm, ⟨16, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x128, .f32⟩
  | .local _ .vmem, ⟨10, _⟩ => ⟨S512x1024, .f32⟩
  | .local _ .vmem, ⟨11, _⟩ => ⟨S512x1024, .f32⟩
  | .local _ .vmem, ⟨12, _⟩ => ⟨S512x128, .i32⟩
  | .local _ .vmem, ⟨13, _⟩ => ⟨S512x128, .i32⟩
  | .local _ .vmem, ⟨14, _⟩ => ⟨S512x128, .f32⟩
  | .local _ .vmem, ⟨15, _⟩ => ⟨S512x128, .f32⟩
  | .local _ .vmem, ⟨16, _⟩ => ⟨S8x128, .f32⟩
  | .local _ .vmem, ⟨17, _⟩ => ⟨S8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x8 : Shape := ⟨2, ![1024, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x8, .f32⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Proof.Experts.Rows.lean ====
/-
  The row gather's names: the rows of the two-slot scratch, the rows of `x1` they are copied from, what a slot holds
  when its 1024 copies have landed, and the batch of copies in flight on a slot's semaphore.
-/
module

public import proofs.«01_k».proof.Proof.Gen.KernelIdeal.Skeleton
public import Idealize.ShloMosaic.Lib.Tactic
public import Idealize.ShloMosaic.Lib.Ring
public import Idealize.ShloMosaic.Lib.Batch
public import Idealize.ShloMosaic.Lib.ValueIdx
public import Idealize.ShloMosaic.Lib.ValueLayout
public import Idealize.ShloMosaic.Lib.Pipeline.Kit

@[expose] public section

noncomputable section

namespace Cert.Proof.Experts

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's, beside the counters of the copies' batches. -/
abbrev UU (nD : Nat) (τ : Topo) : Type := UR sig nD τ × Counters

local notation "𝕄" => MT nD τ sig Unit (Elt F) ℕ (UU nD τ) ℕ

/-! ## The slots, their rows, and the source's rows -/

theorem slot_inb (s : Fin 2) : ∀ a, (![s.val, 0, 0] : Fin 3 → ℕ) a + S1x1024x1024.size a ≤ S2x1024x1024.size a := by
  have := s.isLt; intro a; fin_cases a
  · show s.val + 1 ≤ 2; omega
  · show 0 + 1024 ≤ 1024; omega
  · show 0 + 1024 ≤ 1024; omega

theorem row_inb (r : Fin 1024) : ∀ a, (![r.val, 0] : Fin 2 → ℕ) a + S1x1024.size a ≤ S1024x1024.size a := by
  have := r.isLt; intro a; fin_cases a
  · show r.val + 1 ≤ 1024; omega
  · show 0 + 1024 ≤ 1024; omega

theorem src_inb {w : ℕ} (h : w < 32768) : ∀ a, (![w, 0] : Fin 2 → ℕ) a + S1x1024.size a ≤ S32768x1024.size a := by
  intro a; fin_cases a
  · show w + 1 ≤ 32768; omega
  · show 0 + 1024 ≤ 1024; omega

/-- Slot `s` of the scratch, as the body spells it. -/
def slotM (s : Fin 2) : Memref sig .tc .vmem S1024x1024 .f32 :=
  ((Memref.whole cc0_scratch0).slice (Rect.unit (s := S2x1024x1024) ![s.val, 0, 0] S1x1024x1024.size (slot_inb s)) (fun _ => rfl)).squeeze
    S1024x1024 squeezes_S1x1024x1024_S1024x1024

/-- Row `r` of slot `s`: a copy's destination. -/
def rowM (s : Fin 2) (r : Fin 1024) : Memref sig .tc .vmem S1x1024 .f32 :=
  (slotM s).slice (Rect.unit (s := S1024x1024) ![r.val, 0] S1x1024.size (row_inb r)) (fun _ => rfl)

/-- Row `w` of `x1`: a copy's source. -/
def srcM (w : ℕ) (h : w < 32768) : Memref sig .tc .hbm S1x1024 .f32 :=
  (Memref.whole main_arg0).slice (Rect.unit (s := S32768x1024) ![w, 0] S1x1024.size (src_inb h)) (fun _ => rfl)

/-- The two slots' semaphores. -/
def cellD (s : Fin 2) : DmaSem sig := cc0_scratch2.ix (ix1 s)

/-- Where row `r` of slot `s` lies in the scratch. -/
theorem rowM_emb (s : Fin 2) (r : Fin 1024) (k : Fin 1024) : (rowM s r).view.emb (ix2 (0 : Fin 1) k) = ix3 s r k := by
  have h2 : (Rect.unit (s := S1024x1024) ![r.val, 0] S1x1024.size (row_inb r)).emb (ix2 (0 : Fin 1) k) = ix2 r k := by
    funext a; fin_cases a
    · exact Fin.ext (by show r.val + 1 * 0 = r.val; omega)
    · exact Fin.ext (by show 0 + 1 * k.val = k.val; omega)
  have h3 : (Rect.unit (s := S2x1024x1024) ![s.val, 0, 0] S1x1024x1024.size (slot_inb s)).emb (ix3 (⟨0, Nat.one_pos⟩ : Fin 1) r k) = ix3 s r k := by
    funext a; fin_cases a
    · exact Fin.ext (by show s.val + 1 * 0 = s.val; omega)
    · exact Fin.ext (by show 0 + 1 * r.val = r.val; omega)
    · exact Fin.ext (by show 0 + 1 * k.val = k.val; omega)
  show (Rect.unit (s := S2x1024x1024) ![s.val, 0, 0] S1x1024x1024.size (slot_inb s)).emb
    (Shape.reshapeEquiv _ ((Rect.unit (s := S1024x1024) ![r.val, 0] S1x1024.size (row_inb r)).emb (ix2 (0 : Fin 1) k))) = _
  rw [h2]
  exact (congrArg _ (reshapeEquiv_ix2_1ab _ r k)).trans h3

/-- Where row `w` lies in `x1`. -/
theorem srcM_emb (w : ℕ) (h : w < 32768) (k : Fin 1024) : (srcM w h).view.emb (ix2 (0 : Fin 1) k) = ix2 (⟨w, h⟩ : Fin 32768) k := by
  show (Rect.unit (s := S32768x1024) ![w, 0] S1x1024.size (src_inb h)).emb (ix2 (0 : Fin 1) k) = _
  funext a; fin_cases a
  · exact Fin.ext (by show w + 1 * 0 = w; omega)
  · exact Fin.ext (by show 0 + 1 * k.val = k.val; omega)

/-- An index of a one-row shape is `(0, k)`. -/
theorem eq_row (x : S1x1024.Idx) : x = ix2 (0 : Fin 1) (x 1) := by
  funext a; fin_cases a
  · exact Subsingleton.elim (α := Fin 1) _ _
  · rfl

/-- The elements of row `r` of slot `s`, -/
def rowSet (s : Fin 2) (r : Fin 1024) : Finset S2x1024x1024.Idx := Finset.univ.filter fun y => (y 0).val = s.val ∧ (y 1).val = r.val
/-- of slot `s`, -/
def slotSet (s : Fin 2) : Finset S2x1024x1024.Idx := Finset.univ.filter fun y => (y 0).val = s.val
/-- and of row `w` of `x1`. -/
def srcSet (w : ℕ) : Finset S32768x1024.Idx := Finset.univ.filter fun y => (y 0).val = w

theorem mem_rowSet (s : Fin 2) (r : Fin 1024) (y : S2x1024x1024.Idx) : y ∈ rowSet s r ↔ (y 0).val = s.val ∧ (y 1).val = r.val := by
  simp only [rowSet, Finset.mem_filter, Finset.mem_univ, true_and]
theorem mem_slotSet (s : Fin 2) (y : S2x1024x1024.Idx) : y ∈ slotSet s ↔ (y 0).val = s.val := by
  simp only [slotSet, Finset.mem_filter, Finset.mem_univ, true_and]
theorem mem_srcSet (w : ℕ) (y : S32768x1024.Idx) : y ∈ srcSet w ↔ (y 0).val = w := by
  simp only [srcSet, Finset.mem_filter, Finset.mem_univ, true_and]

theorem rowM_set (s : Fin 2) (r : Fin 1024) : (rowM s r).view.set = rowSet s r := by
  refine Finset.ext fun (y : S2x1024x1024.Idx) => Iff.trans ?_ (mem_rowSet s r y).symm
  constructor
  · intro h
    obtain ⟨x, -, rfl⟩ := Finset.mem_map.mp h
    have e : (rowM s r).view.emb x = ix3 s r (x 1) := (congrArg _ (eq_row x)).trans (rowM_emb s r (x 1))
    exact ⟨congrArg (fun y : S2x1024x1024.Idx => (y 0).val) e, congrArg (fun y : S2x1024x1024.Idx => (y 1).val) e⟩
  · rintro ⟨h0, h1⟩
    have : (rowM s r).view.emb (ix2 (0 : Fin 1) (y 2)) = y := by
      refine (rowM_emb s r (y 2)).trans ?_; funext a; fin_cases a
      · exact Fin.ext h0.symm
      · exact Fin.ext h1.symm
      · rfl
    rw [← this]; exact View.emb_mem_set _ _

theorem srcM_set (w : ℕ) (h : w < 32768) : (srcM w h).view.set = srcSet w := by
  refine Finset.ext fun (y : S32768x1024.Idx) => Iff.trans ?_ (mem_srcSet w y).symm
  constructor
  · intro h'
    obtain ⟨x, -, rfl⟩ := Finset.mem_map.mp h'
    have e : (srcM w h).view.emb x = ix2 (⟨w, h⟩ : Fin 32768) (x 1) := (congrArg _ (eq_row x)).trans (srcM_emb w h (x 1))
    exact congrArg (fun y : S32768x1024.Idx => (y 0).val) e
  · intro h0
    have : (srcM w h).view.emb (ix2 (0 : Fin 1) (y 1)) = y := by
      refine (srcM_emb w h (y 1)).trans ?_; funext a; fin_cases a
      · exact Fin.ext h0.symm
      · rfl
    rw [← this]; exact View.emb_mem_set _ _

/-! ## What is held -/

/-- The rows a tile gathers: row `r` of the slot receives the row of `x1` its word names. -/
def slab (x1 : S32768x1024.Idx → Elt F .f32) (wd : Fin 1024 → BitVec 32) : S2x1024x1024.Idx → Elt F .f32 := fun y =>
  x1 (ix2 (⟨(wd (y 1)).toNat % 32768, Nat.mod_lt _ (by decide)⟩ : Fin 32768) (y 2))

section Held

variable (c : Dev nD)

/-- A row of the scratch at some contents; -/
def rowAny (s : Fin 2) (r : Fin 1024) : sProp 𝕄 :=
  iprop(∃ g : S2x1024x1024.Idx → Elt F .f32, ((c : Thread nD τ).loc cc0_scratch0) ↦[rowSet s r]{fullShare} g)
/-- the whole of `x1` at read token `n`; -/
def tok (x1 : S32768x1024.Idx → Elt F .f32) (n : ℕ) : sProp 𝕄 :=
  ((c : Thread nD τ).loc main_arg0) ↦{Transfers.shareTokN fullShare n} x1
/-- row `w` of it, -/
def tokRow (x1 : S32768x1024.Idx → Elt F .f32) (n w : ℕ) : sProp 𝕄 :=
  ((c : Thread nD τ).loc main_arg0) ↦[srcSet w]{Transfers.shareTokN fullShare n} x1
/-- and what is left of the token beside that row. -/
def tokRest (x1 : S32768x1024.Idx → Elt F .f32) (n w : ℕ) : sProp 𝕄 :=
  ((c : Thread nD τ).loc main_arg0) ↦[Finset.univ \ srcSet w]{Transfers.shareTokN fullShare n} x1

theorem tok_split (x1 : S32768x1024.Idx → Elt F .f32) (n w : ℕ) :
    (tok c x1 n : sProp 𝕄) ⊣⊢ iprop(tokRow c x1 n w ∗ tokRest c x1 n w) := by
  unfold tok tokRow tokRest
  exact pointsTo_split_subset (Finset.subset_univ _)

/-- The number of slot `s`'s read token for row `r`. -/
def tn (s : Fin 2) (r : Fin 1024) : ℕ := s.val * 1024 + r.val

/-- What copy `r` into slot `s` delivers: the row at the gathered contents and its source's token back. -/
def deliv (x1 : S32768x1024.Idx → Elt F .f32) (wd : Fin 1024 → BitVec 32) (s : Fin 2) (r : Fin 1024) : sProp 𝕄 :=
  iprop((((c : Thread nD τ).loc cc0_scratch0) ↦[rowSet s r]{fullShare} slab x1 wd) ∗ tokRow c x1 (tn s r) (wd r).toNat)

instance deliv_storable (x1 : S32768x1024.Idx → Elt F .f32) (wd : Fin 1024 → BitVec 32) (s : Fin 2) (r : Fin 1024) :
    BI.Storable (upEmb : UEmb _ 𝕄) (deliv c x1 wd s r) := by
  unfold deliv tokRow; infer_instance

/-- One row's credit on a slot's semaphore. -/
def NN : ℕ := (rowM 0 0).view.dmaCredit

/-- Slot `s`'s batch of 1024 copies, `j` issued and `u` units consumed. -/
def batch (x1 : S32768x1024.Idx → Elt F .f32) (wd : Fin 1024 → BitVec 32) (s : Fin 2) (j u : ℕ) : sProp 𝕄 :=
  Transfers.Batch (countersEmb (U := UU nD τ)) (c : Thread nD τ) (.dma (cellD s)) () NN (deliv c x1 wd s) j u

/-- Slot `s` at rest: its rows at some contents, its tokens in hand, its semaphore at zero. -/
def slotIdle (x1 : S32768x1024.Idx → Elt F .f32) (s : Fin 2) : sProp 𝕄 :=
  iprop(bigSep Finset.univ (rowAny c s) ∗ bigSep Finset.univ (fun r => tok c x1 (tn s r)) ∗ semVal ((c : Thread nD τ), SemLoc.dma (cellD s)) 0)

/-- Slot `s` in flight: its 1024 copies issued, none waited for. -/
def slotFlight (x1 : S32768x1024.Idx → Elt F .f32) (wd : Fin 1024 → BitVec 32) (s : Fin 2) : sProp 𝕄 :=
  iprop(batch c x1 wd s 1024 0 ∗ bigSep Finset.univ (fun r => tokRest c x1 (tn s r) (wd r).toNat))

/-- Slot `s` landed: its rows at the gathered contents, its tokens in hand, its semaphore at zero. -/
def slotFull (x1 : S32768x1024.Idx → Elt F .f32) (wd : Fin 1024 → BitVec 32) (s : Fin 2) : sProp 𝕄 :=
  iprop((((c : Thread nD τ).loc cc0_scratch0) ↦[slotSet s]{fullShare} slab x1 wd) ∗ bigSep Finset.univ (fun r => tok c x1 (tn s r))
    ∗ semVal ((c : Thread nD τ), SemLoc.dma (cellD s)) 0)

end Held

end Cert.Proof.Experts

end
-- ==== Proof.Experts.Issue.lean ====
/-
  The issue loops: 1024 row copies started into one slot.
-/
module

public import proofs.«01_k».proof.Proof.Experts.Rows

@[expose] public section

noncomputable section

namespace Cert.Proof.Experts

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

abbrev 𝒱₀ : Variants := Variants.none

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem ret_bind' {E : Type → Type} {α β : Type} (a : α) (k : α → Prog E β) : (Prog.ret a).bind k = k a := rfl

/-- A landed row holds the gathered contents. -/
theorem landed_eq (x1 : S32768x1024.Idx → Elt F .f32) (wd : Fin 1024 → BitVec 32) (s : Fin 2) (r : Fin 1024) (h : (wd r).toNat < 32768)
    (g : S2x1024x1024.Idx → Elt F .f32) (y : S2x1024x1024.Idx) (hy : y ∈ rowSet s r) :
    (rowM s r).view.write (Elt F) g (ReadAs.same.apply ((srcM (wd r).toNat h).view.read (Elt F) x1)) Finset.univ y = slab x1 wd y := by
  obtain ⟨h0, h1⟩ := (mem_rowSet s r y).mp hy
  have e : (rowM s r).view.emb (ix2 (0 : Fin 1) (y 2)) = y := by
    refine (rowM_emb s r (y 2)).trans ?_; funext a; fin_cases a
    · exact Fin.ext h0.symm
    · exact Fin.ext h1.symm
    · rfl
  have hw : y 1 = r := Fin.ext h1
  have e2 : (srcM (wd r).toNat h).view.emb (ix2 (0 : Fin 1) (y 2)) = ix2 (⟨(wd r).toNat, h⟩ : Fin 32768) (y 2) := srcM_emb _ h (y 2)
  refine (congrArg _ e.symm).trans ?_
  refine (View.write_emb_of_mem (v := (rowM s r).view) (Val := Elt F) g _ (Finset.mem_univ _)).trans ?_
  have e3 : (ix2 (⟨(wd r).toNat, h⟩ : Fin 32768) (y 2) : S32768x1024.Idx)
      = ix2 (⟨(wd (y 1)).toNat % 32768, Nat.mod_lt _ (by decide)⟩ : Fin 32768) (y 2) := by
    rw [hw]; exact congrArg (fun a : Fin 32768 => (ix2 a (y 2) : S32768x1024.Idx)) (Fin.ext (Nat.mod_eq_of_lt h).symm)
  exact congrArg x1 (e2.trans e3)

theorem wp_issue (c : Dev nD) (x1 : S32768x1024.Idx → Elt F .f32) (wd : Fin 1024 → BitVec 32) (s : Fin 2) (r : Fin 1024)
    (h : (wd r).toNat < 32768)
    {src : Memref sig .tc .hbm S1x1024 .f32} {dst : Memref sig .tc .vmem S1x1024 .f32} {sm : SemLoc sig}
    (e1 : src = srcM (wd r).toNat h) (e2 : dst = rowM s r) (e3 : sm = .dma (cellD s))
    {hsrc : src.view.WordExact} {hdst : dst.view.WordExact} {hsem : DmaTarget.Typed (p := (.tc : Proc τ)) (nD := nD) .hbm sm (.here dst)}
    {α : Type} {k : PUnit → Prog (TpuEff nD τ sig (Elt F) Λ₀ .tc) α} {Q : α → sProp 𝕄} :
    iprop(rowAny c s r ∗ tok c x1 (tn s r) ∗ batch c x1 wd s r.val 0)
      ⊢ iprop((iprop(batch c x1 wd s (r.val + 1) 0 ∗ tokRest c x1 (tn s r) (wd r).toNat)
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDmaAs src (.here dst) .same sm hsrc hdst hsem) k) Q) := by
  subst e1 e2 e3
  unfold rowAny
  iintro ⟨⟨%g, Hr⟩, Ht, HB⟩ Hk
  ihave Ht' := (tok_split c x1 (tn s r) (wd r).toNat).1 $$ Ht
  icases Ht' with ⟨Ht, Hrest⟩
  unfold batch
  iapply (Transfers.wp_dmaBatch (countersEmb (U := UU nD τ)) 𝒱₀ (c : Thread nD τ) none (src := srcM (wd r).toNat h) (dst := rowM s r) () NN rfl
    (Sd := rowSet s r) (Finset.subset_of_eq (rowM_set s r)) (D := deliv c x1 wd s) (j := r.val) (u := 0) (fs := x1) (fd := g) (q := Transfers.shareTokN fullShare (tn s r)) r.isLt (Nat.zero_le _) (by
      unfold deliv tokRow
      refine BIClass.sep_mono (Entails.of_eq (pointsTo_congr fun y hy => landed_eq x1 wd s r h g y hy)) ?_
      exact Entails.of_eq (congrArg (fun S : Finset S32768x1024.Idx => (((c : Thread nD τ).loc main_arg0) ↦[S]{Transfers.shareTokN fullShare (tn s r)} x1 : sProp 𝕄)) (srcM_set _ h)))) $$ [Hr Ht HB]
  · isplitl [Ht]
    · rw [srcM_set]; unfold tokRow; iexact Ht
    isplitl [Hr]; · iexact Hr
    iexact HB
  iintro HB
  iapply Hk
  isplitl [HB]; · iexact HB
  iexact Hrest

/-! ## The two loops -/

/-- The word a staged row-number block gives row `r`. -/
def wordOf (c : Dev nD) (M : Memref sig .tc .smem S1x1x1024 .i32) (f : Bf (F := F) c M) (r : Fin 1024) : BitVec 32 :=
  M.view.read (Elt F) f (ix3 (0 : Fin 1) (0 : Fin 1) r)

/-- Before trip `k` of an issue loop: the rows and tokens not yet used, the batch of `k` copies, the rests of the tokens used. -/
def issuing (c : Dev nD) (x1 : S32768x1024.Idx → Elt F .f32) (wd : Fin 1024 → BitVec 32) (s : Fin 2) (k : ℕ) : sProp 𝕄 :=
  iprop(bigSep (Ring.rangeSet 1024 k 1024) (rowAny c s) ∗ bigSep (Ring.rangeSet 1024 k 1024) (fun r => tok c x1 (tn s r))
    ∗ batch c x1 wd s k 0 ∗ bigSep (Ring.rangeSet 1024 0 k) (fun r => tokRest c x1 (tn s r) (wd r).toNat))

theorem trips1 : k0_t1_loop.trips = 1024 := by decide
theorem trips2 : k0_t2_loop.trips = 1024 := by decide

theorem iv_toNat (k : ℕ) (hk : k < 1024) : (Scf.iv 0#32 1#32 k : BitVec 32).toNat = k := by
  simp only [Scf.iv, BitVec.toNat_add, BitVec.toNat_mul, BitVec.toNat_ofNat]
  omega

theorem off2_eq (k : Fin k0_t1_loop.trips) (hk : k.val < 1024) : k0_off2 k = ![0, 0, k.val] := by
  have e := iv_toNat k.val hk
  have : (1#32 * Scf.iv 0#32 1#32 k.val + 0#32 : BitVec 32).toNat = k.val := by
    rw [BitVec.one_mul, BitVec.add_zero]; exact e
  funext a; fin_cases a
  · rfl
  · rfl
  · exact this

theorem off5_eq (k : Fin k0_t2_loop.trips) (hk : k.val < 1024) : k0_off5 k = ![0, 0, k.val] := off2_eq k hk

theorem off3_eq (k : Fin k0_t1_loop.trips) (hk : k.val < 1024) : k0_off3 k = ![k.val, 0] := by
  funext a; fin_cases a
  · exact iv_toNat k.val hk
  · rfl

theorem off8_eq (k : Fin k0_t2_loop.trips) (hk : k.val < 1024) : k0_off8 k = ![k.val, 0] := off3_eq k hk

theorem dst_eq (s : Fin 2) (r : Fin 1024) (o : Fin 3 → ℕ) (ho : o = ![s.val, 0, 0]) (hi : ∀ a, o a + S1x1024x1024.size a ≤ S2x1024x1024.size a)
    (o' : Fin 2 → ℕ) (ho' : o' = ![r.val, 0]) (hi' : ∀ a, o' a + S1x1024.size a ≤ S1024x1024.size a) :
    (((Memref.whole cc0_scratch0).slice (Rect.unit (s := S2x1024x1024) o S1x1024x1024.size hi) (fun _ => rfl)).squeeze
      S1024x1024 squeezes_S1x1024x1024_S1024x1024).slice (Rect.unit (s := S1024x1024) o' S1x1024.size hi') (fun _ => rfl) = rowM s r := by
  subst ho ho'; rfl

theorem sem_eq (s : Fin 2) (o : Fin 1 → ℕ) (ho : o = ![s.val]) (hi : ∀ a, o a + S1.size a ≤ S2.size a) :
    ((SemArray.slice cc0_scratch2 (Rect.unit (s := S2) o S1.size hi)).squeeze S_ squeezes_S1_S_).sem = cellD s := by
  subst ho; revert s; decide

theorem word_eq (c : Dev nD) (M : Memref sig .tc .smem S1x1x1024 .i32) (f : Bf (F := F) c M) (r : Fin 1024) (o : Fin 3 → ℕ) (ho : o = ![0, 0, r.val])
    (hi : ∀ a, o a + S1x1x1.size a ≤ S1x1x1024.size a) (h1 : 0 < S1x1x1.numel) :
    View.readAt (Elt F) M.view (Rect.unit (s := S1x1x1024) o S1x1x1.size hi).toLoadRect f (Shape.Idx.first h1) = wordOf c M f r := by
  subst ho
  refine congrArg (View.read (Elt F) M.view f) (funext fun a => ?_)
  fin_cases a
  · exact Fin.ext rfl
  · exact Fin.ext rfl
  · exact Fin.ext (by show r.val + 1 * 0 = r.val; omega)

theorem step1 (c : Dev nD) (i : grid0.Coords) (M3 : Memref sig .tc .smem S1x1x1024 .i32) (h3 : M3.IsWhole) (M4 : Memref sig .tc .smem S1x1x1024 .i32) (h4 : M4.IsWhole)
    (M6 : Memref sig .tc .vmem S1x1024x3584 .bf16) (h6 : M6.IsWhole) (M7 : Memref sig .tc .vmem S1x1024x3584 .bf16) (h7 : M7.IsWhole)
    (M8 : Memref sig .tc .vmem S1x3584x1024 .bf16) (h8 : M8.IsWhole) (M9 : Memref sig .tc .vmem S1024x1024 .f32) (h9 : M9.IsWhole)
    (v11 : Elt F .i32) (hc : k0_cond1 i v11 = 1#1)
    (x1 : S32768x1024.Idx → Elt F .f32) (f3 : Bf (F := F) c M3) (hw : ∀ r, (wordOf c M3 f3 r).toNat < 32768)
    (k : Fin k0_t1_loop.trips) :
    iprop(pt c M3 f3 ∗ issuing c x1 (wordOf c M3 f3) 0 k.val)
      ⊢ wp frame (wpE (defs₀ (F := F)) 𝒱₀ (c : Thread nD τ) none) Set.univ
        (k0_t1_body i (Memref.whole main_arg2) (Memref.isWhole_whole _) (Memref.whole main_arg3) (Memref.isWhole_whole _) M3 h3 M4 h4
          (Memref.whole main_arg0) (Memref.isWhole_whole _) M6 h6 M7 h7 M8 h8 M9 h9 (Memref.whole cc0_scratch0) (Memref.isWhole_whole _)
          (Memref.whole cc0_scratch1) (Memref.isWhole_whole _) cc0_scratch2 v11 hc k ())
        (fun _ => iprop(pt c M3 f3 ∗ issuing c x1 (wordOf c M3 f3) 0 (k.val + 1))) := by
  iintro ⟨H3, HI⟩
  unfold k0_t1_body
  sl_exec
  have hk : k.val < 1024 := trips1 ▸ k.isLt
  have hv : step1.sl.r c M3 f3 k = wordOf c M3 f3 ⟨k.val, hk⟩ := word_eq c M3 f3 ⟨k.val, hk⟩ _ (off2_eq k hk) _ _
  generalize step1.sl.r c M3 f3 k = v at hv ⊢
  subst hv
  have hchk : k0_chk1 i v11 (wordOf c M3 f3 ⟨k.val, hk⟩) := fun _ => src_inb (hw _)
  sl_exec
  unfold issuing
  rw [Ring.bigSep_rangeSet_head (Φ := rowAny c 0) hk hk, Ring.bigSep_rangeSet_head (Φ := fun r => tok c x1 (tn 0 r)) hk hk]
  icases HI with ⟨⟨Hr, Hrs⟩, ⟨Ht, Hts⟩, HB, Hd⟩
  iapply (wp_issue c x1 (wordOf c M3 f3) 0 ⟨k.val, hk⟩ (hw _) rfl (dst_eq 0 ⟨k.val, hk⟩ _ rfl _ _ (off3_eq k hk) _) (congrArg SemLoc.dma (sem_eq 0 _ rfl _))) $$ [Hr Ht HB]
  · isplitl [Hr]; · iexact Hr
    isplitl [Ht]; · iexact Ht
    iexact HB
  iintro ⟨HB, Hrest⟩
  sl_step
  isplitl [H3]; · iexact H3
  isplitl [Hrs]; · iexact Hrs
  isplitl [Hts]; · iexact Hts
  isplitl [HB]; · iexact HB
  rw [Ring.bigSep_rangeSet_last (lo := 0) (hi := k.val + 1) (Nat.succ_pos _) hk]
  isplitl [Hrest]; · iexact Hrest
  iexact Hd

theorem step2 (c : Dev nD) (i : grid0.Coords) (M3 : Memref sig .tc .smem S1x1x1024 .i32) (h3 : M3.IsWhole) (M4 : Memref sig .tc .smem S1x1x1024 .i32) (h4 : M4.IsWhole)
    (M6 : Memref sig .tc .vmem S1x1024x3584 .bf16) (h6 : M6.IsWhole) (M7 : Memref sig .tc .vmem S1x1024x3584 .bf16) (h7 : M7.IsWhole)
    (M8 : Memref sig .tc .vmem S1x3584x1024 .bf16) (h8 : M8.IsWhole) (M9 : Memref sig .tc .vmem S1024x1024 .f32) (h9 : M9.IsWhole)
    (v17 : Elt F .i32) (hc : k0_cond2 i v17 = 1#1)
    (x1 : S32768x1024.Idx → Elt F .f32) (f4 : Bf (F := F) c M4) (s : Fin 2) (h6o : k0_off6 i = ![s.val]) (h7o : k0_off7 i = ![s.val, 0, 0]) (hw : ∀ r, (wordOf c M4 f4 r).toNat < 32768)
    (k : Fin k0_t2_loop.trips) :
    iprop(pt c M4 f4 ∗ issuing c x1 (wordOf c M4 f4) s k.val)
      ⊢ wp frame (wpE (defs₀ (F := F)) 𝒱₀ (c : Thread nD τ) none) Set.univ
        (k0_t2_body i (Memref.whole main_arg2) (Memref.isWhole_whole _) (Memref.whole main_arg3) (Memref.isWhole_whole _) M3 h3 M4 h4
          (Memref.whole main_arg0) (Memref.isWhole_whole _) M6 h6 M7 h7 M8 h8 M9 h9 (Memref.whole cc0_scratch0) (Memref.isWhole_whole _)
          (Memref.whole cc0_scratch1) (Memref.isWhole_whole _) cc0_scratch2 v17 hc k ())
        (fun _ => iprop(pt c M4 f4 ∗ issuing c x1 (wordOf c M4 f4) s (k.val + 1))) := by
  iintro ⟨H4, HI⟩
  unfold k0_t2_body
  sl_exec
  have hk : k.val < 1024 := trips2 ▸ k.isLt
  have hv : step2.sl.r c M4 f4 k = wordOf c M4 f4 ⟨k.val, hk⟩ := word_eq c M4 f4 ⟨k.val, hk⟩ _ (off5_eq k hk) _ _
  generalize step2.sl.r c M4 f4 k = v at hv ⊢
  subst hv
  have hchk : k0_chk2 i v17 (wordOf c M4 f4 ⟨k.val, hk⟩) := fun _ => src_inb (hw _)
  sl_exec
  unfold issuing
  rw [Ring.bigSep_rangeSet_head (Φ := rowAny c s) hk hk, Ring.bigSep_rangeSet_head (Φ := fun r => tok c x1 (tn s r)) hk hk]
  icases HI with ⟨⟨Hr, Hrs⟩, ⟨Ht, Hts⟩, HB, Hd⟩
  iapply (wp_issue c x1 (wordOf c M4 f4) s ⟨k.val, hk⟩ (hw _) rfl (dst_eq s ⟨k.val, hk⟩ _ h7o _ _ (off8_eq k hk) _) (congrArg SemLoc.dma (sem_eq s _ h6o _))) $$ [Hr Ht HB]
  · isplitl [Hr]; · iexact Hr
    isplitl [Ht]; · iexact Ht
    iexact HB
  iintro ⟨HB, Hrest⟩
  sl_step
  isplitl [H4]; · iexact H4
  isplitl [Hrs]; · iexact Hrs
  isplitl [Hts]; · iexact Hts
  isplitl [HB]; · iexact HB
  rw [Ring.bigSep_rangeSet_last (lo := 0) (hi := k.val + 1) (Nat.succ_pos _) hk]
  isplitl [Hrest]; · iexact Hrest
  iexact Hd

/-- A slot at rest is the issue's start, and the issue's end is a slot in flight. -/
theorem issuing_start (c : Dev nD) (x1 : S32768x1024.Idx → Elt F .f32) (wd : Fin 1024 → BitVec 32) (s : Fin 2) :
    (slotIdle c x1 s : sProp 𝕄) ⊢ iprop(|={Set.univ}=> issuing c x1 wd s 0) := by
  unfold slotIdle issuing batch
  iintro ⟨Hr, Ht, Hs⟩
  imod (Transfers.batch_alloc' (Lvl := ℕ) (countersEmb (U := UU nD τ)) (c : Thread nD τ) () NN (deliv c x1 wd s) (sm := .dma (cellD s)) (E := Set.univ)) $$ Hs with HB
  imodintro
  rw [Ring.rangeSet_univ, Ring.bigSep_rangeSet_empty (lo := 0) (hi := 0) le_rfl]
  isplitl [Hr]; · iexact Hr
  isplitl [Ht]; · iexact Ht
  isplitl [HB]; · iexact HB
  iempintro

theorem issuing_end (c : Dev nD) (x1 : S32768x1024.Idx → Elt F .f32) (wd : Fin 1024 → BitVec 32) (s : Fin 2) :
    (issuing c x1 wd s 1024 : sProp 𝕄) ⊢ slotFlight c x1 wd s := by
  unfold slotFlight issuing
  rw [Ring.rangeSet_univ, Ring.bigSep_rangeSet_empty (lo := 1024) (hi := 1024) le_rfl, Ring.bigSep_rangeSet_empty (lo := 1024) (hi := 1024) le_rfl]
  iintro ⟨-, -, HB, Hd⟩
  isplitl [HB]; · iexact HB
  iexact Hd

theorem run1 (c : Dev nD) (i : grid0.Coords) (M3 : Memref sig .tc .smem S1x1x1024 .i32) (h3 : M3.IsWhole) (M4 : Memref sig .tc .smem S1x1x1024 .i32) (h4 : M4.IsWhole)
    (M6 : Memref sig .tc .vmem S1x1024x3584 .bf16) (h6 : M6.IsWhole) (M7 : Memref sig .tc .vmem S1x1024x3584 .bf16) (h7 : M7.IsWhole)
    (M8 : Memref sig .tc .vmem S1x3584x1024 .bf16) (h8 : M8.IsWhole) (M9 : Memref sig .tc .vmem S1024x1024 .f32) (h9 : M9.IsWhole)
    (v11 : Elt F .i32) (hc : k0_cond1 i v11 = 1#1)
    (x1 : S32768x1024.Idx → Elt F .f32) (f3 : Bf (F := F) c M3) (hw : ∀ r, (wordOf c M3 f3 r).toNat < 32768)
    (Q : Unit → sProp 𝕄) :
    iprop(pt c M3 f3 ∗ slotIdle c x1 0 ∗ (iprop(pt c M3 f3 ∗ slotFlight c x1 (wordOf c M3 f3) 0) -∗ Q ()))
      ⊢ wp frame (wpE (defs₀ (F := F)) 𝒱₀ (c : Thread nD τ) none) Set.univ
        (Scf.Loop.for k0_t1_loop k0_t1_ok () (k0_t1_body i (Memref.whole main_arg2) (Memref.isWhole_whole _) (Memref.whole main_arg3) (Memref.isWhole_whole _) M3 h3 M4 h4
          (Memref.whole main_arg0) (Memref.isWhole_whole _) M6 h6 M7 h7 M8 h8 M9 h9 (Memref.whole cc0_scratch0) (Memref.isWhole_whole _)
          (Memref.whole cc0_scratch1) (Memref.isWhole_whole _) cc0_scratch2 v11 hc)) Q := by
  iintro ⟨H3, HI, HK⟩
  imod (issuing_start c x1 (wordOf c M3 f3) 0) $$ HI with HI
  iapply (Scf.wp_for frame (wpE (defs₀ (F := F)) 𝒱₀ (c : Thread nD τ) none) Set.univ k0_t1_loop.lb k0_t1_loop.ub k0_t1_loop.st k0_t1_ok () _
    (fun k (_ : Unit) => iprop(pt c M3 f3 ∗ issuing c x1 (wordOf c M3 f3) 0 k))
    (fun k _ => step1 c i M3 h3 M4 h4 M6 h6 M7 h7 M8 h8 M9 h9 v11 hc x1 f3 hw k))
  isplitl [H3 HI]
  · isplitl [H3]; · iexact H3
    iexact HI
  iintro %acc ⟨H3, HI⟩
  rw [show Scf.trips k0_t1_loop.lb k0_t1_loop.ub k0_t1_loop.st = 1024 from trips1]
  iapply HK
  isplitl [H3]; · iexact H3
  iapply (issuing_end c x1 (wordOf c M3 f3) 0) $$ HI

theorem run2 (c : Dev nD) (i : grid0.Coords) (M3 : Memref sig .tc .smem S1x1x1024 .i32) (h3 : M3.IsWhole) (M4 : Memref sig .tc .smem S1x1x1024 .i32) (h4 : M4.IsWhole)
    (M6 : Memref sig .tc .vmem S1x1024x3584 .bf16) (h6 : M6.IsWhole) (M7 : Memref sig .tc .vmem S1x1024x3584 .bf16) (h7 : M7.IsWhole)
    (M8 : Memref sig .tc .vmem S1x3584x1024 .bf16) (h8 : M8.IsWhole) (M9 : Memref sig .tc .vmem S1024x1024 .f32) (h9 : M9.IsWhole)
    (v17 : Elt F .i32) (hc : k0_cond2 i v17 = 1#1)
    (x1 : S32768x1024.Idx → Elt F .f32) (f4 : Bf (F := F) c M4) (s : Fin 2) (h6o : k0_off6 i = ![s.val]) (h7o : k0_off7 i = ![s.val, 0, 0]) (hw : ∀ r, (wordOf c M4 f4 r).toNat < 32768)
    (Q : Unit → sProp 𝕄) :
    iprop(pt c M4 f4 ∗ slotIdle c x1 s ∗ (iprop(pt c M4 f4 ∗ slotFlight c x1 (wordOf c M4 f4) s) -∗ Q ()))
      ⊢ wp frame (wpE (defs₀ (F := F)) 𝒱₀ (c : Thread nD τ) none) Set.univ
        (Scf.Loop.for k0_t2_loop k0_t2_ok () (k0_t2_body i (Memref.whole main_arg2) (Memref.isWhole_whole _) (Memref.whole main_arg3) (Memref.isWhole_whole _) M3 h3 M4 h4
          (Memref.whole main_arg0) (Memref.isWhole_whole _) M6 h6 M7 h7 M8 h8 M9 h9 (Memref.whole cc0_scratch0) (Memref.isWhole_whole _)
          (Memref.whole cc0_scratch1) (Memref.isWhole_whole _) cc0_scratch2 v17 hc)) Q := by
  iintro ⟨H4, HI, HK⟩
  imod (issuing_start c x1 (wordOf c M4 f4) s) $$ HI with HI
  iapply (Scf.wp_for frame (wpE (defs₀ (F := F)) 𝒱₀ (c : Thread nD τ) none) Set.univ k0_t2_loop.lb k0_t2_loop.ub k0_t2_loop.st k0_t2_ok () _
    (fun k (_ : Unit) => iprop(pt c M4 f4 ∗ issuing c x1 (wordOf c M4 f4) s k))
    (fun k _ => step2 c i M3 h3 M4 h4 M6 h6 M7 h7 M8 h8 M9 h9 v17 hc x1 f4 s h6o h7o hw k))
  isplitl [H4 HI]
  · isplitl [H4]; · iexact H4
    iexact HI
  iintro %acc ⟨H4, HI⟩
  rw [show Scf.trips k0_t2_loop.lb k0_t2_loop.ub k0_t2_loop.st = 1024 from trips2]
  iapply HK
  isplitl [H4]; · iexact H4
  iapply (issuing_end c x1 (wordOf c M4 f4) s) $$ HI

end Cert.Proof.Experts

end
-- ==== Proof.Experts.Drain.lean ====
/-
  The drain loop: 1024 waits of one row's credit each, after which the slot holds the gathered rows.
-/
module

public import proofs.«01_k».proof.Proof.Experts.Issue

@[expose] public section

noncomputable section

namespace Cert.Proof.Experts

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## A slot and its rows -/

theorem rowSet_disjoint (s : Fin 2) (r r' : Fin 1024) (h : r ≠ r') : Disjoint (rowSet s r) (rowSet s r') :=
  Finset.disjoint_left.mpr fun y hy hy' =>
    h (Fin.ext (((mem_rowSet s r y).mp hy).2.symm.trans ((mem_rowSet s r' y).mp hy').2))

theorem biUnion_rows (s : Fin 2) : Finset.univ.biUnion (rowSet s) = slotSet s := by
  refine Finset.ext fun y => ?_
  rw [Finset.mem_biUnion, mem_slotSet]
  constructor
  · rintro ⟨r, -, hr⟩; exact ((mem_rowSet s r y).mp hr).1
  · intro h; exact ⟨y 1, Finset.mem_univ _, (mem_rowSet s (y 1) y).mpr ⟨h, rfl⟩⟩

theorem slot_rows (c : Dev nD) (s : Fin 2) (f : S2x1024x1024.Idx → Elt F .f32) :
    (((c : Thread nD τ).loc cc0_scratch0) ↦[slotSet s]{fullShare} f : sProp 𝕄)
      = bigSep Finset.univ fun r => ((c : Thread nD τ).loc cc0_scratch0) ↦[rowSet s r]{fullShare} f := by
  have h := pointsTo_biUnion (Ix := Unit) (Name := ℕ) (U := UU nD τ) (Lvl := ℕ) (Val := Elt F) (ℓ := (c : Thread nD τ).loc cc0_scratch0) (q := fullShare) (f := f)
    Finset.univ (rowSet s) (fun r _ r' _ hr => rowSet_disjoint s r r' hr)
  rw [← h]
  exact congrArg (fun S : Finset S2x1024x1024.Idx => (((c : Thread nD τ).loc cc0_scratch0) ↦[S]{fullShare} f : sProp 𝕄)) (biUnion_rows s).symm

theorem slot_any (c : Dev nD) (s : Fin 2) (f : S2x1024x1024.Idx → Elt F .f32) :
    (((c : Thread nD τ).loc cc0_scratch0) ↦[slotSet s]{fullShare} f : sProp 𝕄) ⊢ bigSep Finset.univ (rowAny c s) := by
  have h : ∀ r, ((((c : Thread nD τ).loc cc0_scratch0) ↦[rowSet s r]{fullShare} f : sProp 𝕄) ⊢ rowAny c s r) := fun r => by
    unfold rowAny
    iintro H; iexists f; iexact H
  rw [slot_rows]
  exact bigSep_mono fun r _ => h r

/-- A landed slot is a slot at rest. -/
theorem slotFull_idle (c : Dev nD) (x1 : S32768x1024.Idx → Elt F .f32) (wd : Fin 1024 → BitVec 32) (s : Fin 2) :
    (slotFull c x1 wd s : sProp 𝕄) ⊢ slotIdle c x1 s := by
  unfold slotFull slotIdle
  iintro ⟨H, Ht, Hs⟩
  isplitl [H]; · iapply (slot_any c s (slab x1 wd)) $$ H
  isplitl [Ht]; · iexact Ht
  iexact Hs

/-- The 1024 deliveries and the rests of the tokens are the landed slot and its tokens. -/
theorem landed_join (c : Dev nD) (x1 : S32768x1024.Idx → Elt F .f32) (wd : Fin 1024 → BitVec 32) (s : Fin 2) :
    (iprop(bigSep Finset.univ (deliv c x1 wd s) ∗ bigSep Finset.univ (fun r => tokRest c x1 (tn s r) (wd r).toNat)) : sProp 𝕄)
      ⊢ iprop((((c : Thread nD τ).loc cc0_scratch0) ↦[slotSet s]{fullShare} slab x1 wd) ∗ bigSep Finset.univ (fun r => tok c x1 (tn s r))) := by
  have hd : (bigSep Finset.univ (deliv c x1 wd s) : sProp 𝕄)
      = iprop(bigSep Finset.univ (fun r => (((c : Thread nD τ).loc cc0_scratch0) ↦[rowSet s r]{fullShare} slab x1 wd))
        ∗ bigSep Finset.univ (fun r => tokRow c x1 (tn s r) (wd r).toNat)) := bigSep_sep _ _ _
  have ht : (iprop(bigSep Finset.univ (fun r => tokRow c x1 (tn s r) (wd r).toNat) ∗ bigSep Finset.univ (fun r => tokRest c x1 (tn s r) (wd r).toNat)) : sProp 𝕄)
      ⊢ bigSep Finset.univ (fun r => tok c x1 (tn s r)) := by
    refine (Entails.of_eq (bigSep_sep _ _ _).symm).trans (bigSep_mono fun r _ => ?_)
    exact (tok_split c x1 (tn s r) (wd r).toNat).2
  rw [hd, slot_rows]
  iintro ⟨⟨Hr, Ht⟩, Hrest⟩
  isplitl [Hr]; · iexact Hr
  iapply ht
  isplitl [Ht]; · iexact Ht
  iexact Hrest

/-! ## The loop -/

theorem NN_pos : 0 < NN := by
  unfold NN; decide

theorem wp_drain (c : Dev nD) (x1 : S32768x1024.Idx → Elt F .f32) (wd : Fin 1024 → BitVec 32) (s : Fin 2) (r : Fin 1024)
    {src : Memref sig .tc .hbm S1x1024 .f32} {dst : Memref sig .tc .vmem S1x1024 .f32} {sem : DmaSem sig}
    (e2 : dst = rowM s r) (e3 : sem = cellD s) {hsrc : src.view.WordExact} {hdst : dst.view.WordExact} (W : Waits sig Unit)
    {α : Type} {k : PUnit → Prog (TpuEff nD τ sig (Elt F) Λ₀ .tc) α} {Q : α → sProp 𝕄} :
    iprop(batch c x1 wd s 1024 (NN * r.val) ∗ owes (c : Thread nD τ) 0 W)
      ⊢ iprop((iprop(batch c x1 wd s 1024 (NN * (r.val + 1)) ∗ ∃ W, owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst e2 e3
  have hr := r.isLt
  iintro ⟨HB, HO⟩ Hk
  unfold batch
  iapply (Transfers.wp_waitBatchMul (countersEmb (U := UU nD τ)) 𝒱₀ (c : Thread nD τ) none (srcw := src) (dstw := rowM s r) (hsrc := hsrc) (hdst := hdst) (N := NN) (D := deliv c x1 wd s) (j := 1024) (u := NN * r.val) () 1 (Nat.one_mul NN).symm
    (by rw [Nat.one_mul, ← Nat.mul_succ]; exact Nat.mul_le_mul_left _ r.isLt)) $$ [HB HO]
  · isplitl [HB]; · iexact HB
    iexact HO
  rw [Nat.one_mul, ← Nat.mul_succ]
  iintro ⟨HB, HO⟩
  iapply Hk
  isplitl [HB]; · iexact HB
  iexists _; iexact HO

theorem trips3 : k0_t3_loop.trips = 1024 := by decide

theorem off12_eq (k : Fin k0_t3_loop.trips) (hk : k.val < 1024) : k0_off12 k = ![k.val, 0] := by
  funext a; fin_cases a
  · exact iv_toNat k.val hk
  · rfl

theorem step3 (c : Dev nD) (i : grid0.Coords) (M3 : Memref sig .tc .smem S1x1x1024 .i32) (h3 : M3.IsWhole) (M4 : Memref sig .tc .smem S1x1x1024 .i32) (h4 : M4.IsWhole)
    (M6 : Memref sig .tc .vmem S1x1024x3584 .bf16) (h6 : M6.IsWhole) (M7 : Memref sig .tc .vmem S1x1024x3584 .bf16) (h7 : M7.IsWhole)
    (M8 : Memref sig .tc .vmem S1x3584x1024 .bf16) (h8 : M8.IsWhole) (M9 : Memref sig .tc .vmem S1024x1024 .f32) (h9 : M9.IsWhole)
    (v9 : BitVec 32) (x1 : S32768x1024.Idx → Elt F .f32) (wd : Fin 1024 → BitVec 32)
    (s : Fin 2) (h10o : k0_off10 i = ![s.val]) (h11o : k0_off11 i = ![s.val, 0, 0]) (k : Fin k0_t3_loop.trips) :
    iprop(batch c x1 wd s 1024 (NN * k.val) ∗ ∃ W, owes (c : Thread nD τ) 0 W)
      ⊢ wp frame (wpE (defs₀ (F := F)) 𝒱₀ (c : Thread nD τ) none) Set.univ
        (k0_t3_body (F := F) i (Memref.whole main_arg2) (Memref.isWhole_whole _) (Memref.whole main_arg3) (Memref.isWhole_whole _) M3 h3 M4 h4
          (Memref.whole main_arg0) (Memref.isWhole_whole _) M6 h6 M7 h7 M8 h8 M9 h9 (Memref.whole cc0_scratch0) (Memref.isWhole_whole _)
          (Memref.whole cc0_scratch1) (Memref.isWhole_whole _) cc0_scratch2 v9 k ())
        (fun _ => iprop(batch c x1 wd s 1024 (NN * (k.val + 1)) ∗ ∃ W, owes (c : Thread nD τ) 0 W)) := by
  have hk : k.val < 1024 := trips3 ▸ k.isLt
  iintro ⟨HB, ⟨%W, HO⟩⟩
  unfold k0_t3_body
  iapply (wp_drain c x1 wd s ⟨k.val, hk⟩ (dst_eq s ⟨k.val, hk⟩ _ h11o _ _ (off12_eq k hk) _) (sem_eq s _ h10o _) W) $$ [HB HO]
  · isplitl [HB]; · iexact HB
    iexact HO
  iintro ⟨HB, HO⟩
  simp only [ret_bind']
  sl_step
  isplitl [HB]; · iexact HB
  iexact HO

theorem run3 (c : Dev nD) (i : grid0.Coords) (M3 : Memref sig .tc .smem S1x1x1024 .i32) (h3 : M3.IsWhole) (M4 : Memref sig .tc .smem S1x1x1024 .i32) (h4 : M4.IsWhole)
    (M6 : Memref sig .tc .vmem S1x1024x3584 .bf16) (h6 : M6.IsWhole) (M7 : Memref sig .tc .vmem S1x1024x3584 .bf16) (h7 : M7.IsWhole)
    (M8 : Memref sig .tc .vmem S1x3584x1024 .bf16) (h8 : M8.IsWhole) (M9 : Memref sig .tc .vmem S1024x1024 .f32) (h9 : M9.IsWhole)
    (v9 : BitVec 32) (x1 : S32768x1024.Idx → Elt F .f32) (wd : Fin 1024 → BitVec 32)
    (s : Fin 2) (h10o : k0_off10 i = ![s.val]) (h11o : k0_off11 i = ![s.val, 0, 0]) (Q : Unit → sProp 𝕄) :
    iprop(slotFlight c x1 wd s ∗ (∃ W, owes (c : Thread nD τ) 0 W)
        ∗ (iprop(slotFull c x1 wd s ∗ ∃ W, owes (c : Thread nD τ) 0 W) -∗ Q ()))
      ⊢ wp frame (wpE (defs₀ (F := F)) 𝒱₀ (c : Thread nD τ) none) Set.univ
        (Scf.Loop.for k0_t3_loop k0_t3_ok () (k0_t3_body (F := F) i (Memref.whole main_arg2) (Memref.isWhole_whole _) (Memref.whole main_arg3) (Memref.isWhole_whole _) M3 h3 M4 h4
          (Memref.whole main_arg0) (Memref.isWhole_whole _) M6 h6 M7 h7 M8 h8 M9 h9 (Memref.whole cc0_scratch0) (Memref.isWhole_whole _)
          (Memref.whole cc0_scratch1) (Memref.isWhole_whole _) cc0_scratch2 v9)) Q := by
  unfold slotFlight
  iintro ⟨⟨HB, Hrest⟩, HO, HK⟩
  iapply (wp_fupd)
  iapply (Scf.wp_for frame (wpE (defs₀ (F := F)) 𝒱₀ (c : Thread nD τ) none) Set.univ k0_t3_loop.lb k0_t3_loop.ub k0_t3_loop.st k0_t3_ok () _
    (fun k (_ : Unit) => iprop(batch c x1 wd s 1024 (NN * k) ∗ ∃ W, owes (c : Thread nD τ) 0 W))
    (fun k _ => step3 c i M3 h3 M4 h4 M6 h6 M7 h7 M8 h8 M9 h9 v9 x1 wd s h10o h11o k))
  isplitl [HB HO]
  · isplitl [HB]; · iexact HB
    iexact HO
  iintro %acc ⟨HB, HO⟩
  rw [show Scf.trips k0_t3_loop.lb k0_t3_loop.ub k0_t3_loop.st = 1024 from trips3]
  unfold batch
  imod (Transfers.batch_collect' (countersEmb (U := UU nD τ)) (c : Thread nD τ) (hN := NN_pos)) $$ HB with ⟨HD, Hs⟩
  imodintro
  iapply HK
  isplitr [HO]
  · unfold slotFull
    ihave H := (landed_join c x1 wd s) $$ [HD Hrest]
    · isplitl [HD] <;> iassumption
    icases H with ⟨H, Ht⟩
    isplitl [H]; · iexact H
    isplitl [Ht]; · iexact Ht
    iexact Hs
  iexact HO

end Cert.Proof.Experts

end
-- ==== Proof.Experts.Compute.lean ====
/-
  The products of a tile: the gathered rows through the tile's expert, a chunk of hidden units after another.
-/
module

public import proofs.«01_k».proof.Proof.Experts.Drain
public import Idealize.ShloMosaic.Lib.VecWindow

@[expose] public section

noncomputable section

namespace Cert.Proof.Experts

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- One chunk of 256 hidden units: `silu (X·g) ⊙ (X·u)`, times its rows of the third matrix. -/
def chunk (X : Vec F S1024x1024 .bf16) (g u : Vec F S1x1024x256 .bf16) (d : Vec F S1x256x1024 .bf16) : FVec F S1024x1024 .f32 := k0_pay30 X g u d

section Steps

variable (X : Vec F S1024x1024 .bf16) (g u : Vec F S1x1024x256 .bf16) (d : Vec F S1x256x1024 .bf16) (a : Vec F S1024x1024 .f32)

theorem pay5_eq : k0_pay5 X g u d a = addf a (chunk X g u d) := by
  show addf (shapeCast S1024x1024 a shapeCasts_S1024x1024_S1024x1024) (chunk X g u d) = _
  rw [shapeCast_self]
theorem pay8_eq : k0_pay8 X (k0_pay6 X g) (k0_pay7 u) d a = addf a (chunk X g u d) := by
  show addf (shapeCast S1024x1024 a shapeCasts_S1024x1024_S1024x1024) (chunk X g u d) = _
  rw [shapeCast_self]
theorem pay10_eq : k0_pay10 (k0_pay9 X g u) d a = addf a (chunk X g u d) := by
  show addf (shapeCast S1024x1024 a shapeCasts_S1024x1024_S1024x1024) (chunk X g u d) = _
  rw [shapeCast_self]
theorem pay11_eq : k0_pay11 X g u d a = addf a (chunk X g u d) := by
  show addf (shapeCast S1024x1024 a shapeCasts_S1024x1024_S1024x1024) (chunk X g u d) = _
  rw [shapeCast_self]
theorem pay12_eq : k0_pay12 X g u d a = addf a (chunk X g u d) := by
  show addf (shapeCast S1024x1024 a shapeCasts_S1024x1024_S1024x1024) (chunk X g u d) = _
  rw [shapeCast_self]
theorem pay14_eq : k0_pay14 X (k0_pay13 X g) u d a = addf a (chunk X g u d) := by
  show addf (shapeCast S1024x1024 a shapeCasts_S1024x1024_S1024x1024) (chunk X g u d) = _
  rw [shapeCast_self]
theorem pay18_eq : k0_pay18 (k0_pay15 X g) (k0_pay16 X u) (k0_pay17 X g) (FloatOps.ofBits FTy.f32 1065353216#32) d a = addf a (chunk X g u d) := by
  show addf (shapeCast S1024x1024 a shapeCasts_S1024x1024_S1024x1024) (chunk X g u d) = _
  rw [shapeCast_self]
theorem pay20_eq : k0_pay20 (k0_pay19 X g u d) a = addf a (chunk X g u d) := by
  show addf (shapeCast S1024x1024 a shapeCasts_S1024x1024_S1024x1024) (chunk X g u d) = _
  rw [shapeCast_self]
theorem pay21_eq : k0_pay21 X g u d a = addf a (chunk X g u d) := by
  show addf (shapeCast S1024x1024 a shapeCasts_S1024x1024_S1024x1024) (chunk X g u d) = _
  rw [shapeCast_self]
theorem pay22_eq : k0_pay22 X g u d a = addf a (chunk X g u d) := by
  show addf (shapeCast S1024x1024 a shapeCasts_S1024x1024_S1024x1024) (chunk X g u d) = _
  rw [shapeCast_self]
theorem pay26_eq : k0_pay26 (k0_pay23 X g) (k0_pay24 X u) (k0_pay25 X g) d a = addf a (chunk X g u d) := by
  show addf (shapeCast S1024x1024 a shapeCasts_S1024x1024_S1024x1024) (chunk X g u d) = _
  rw [shapeCast_self]
theorem pay29_eq : k0_pay29 (k0_pay27 X g u) (k0_pay28 d) a = addf a (chunk X g u d) := by
  show addf (shapeCast S1024x1024 a shapeCasts_S1024x1024_S1024x1024) (chunk X g u d) = _
  rw [shapeCast_self]
theorem pay1_eq : k0_pay1 (k0_pay30 X g u d) a = addf a (chunk X g u d) := by
  show addf (shapeCast S1024x1024 a shapeCasts_S1024x1024_S1024x1024) (chunk X g u d) = _
  rw [shapeCast_self]
theorem pay4_eq : k0_pay4 X g u d = chunk X g u d := rfl

end Steps

theorem cols_inb (k : Fin 14) : ∀ a, (![0, 0, 256 * k.val] : Fin 3 → ℕ) a + S1x1024x256.size a ≤ S1x1024x3584.size a := by
  have := k.isLt
  intro a; fin_cases a
  · exact (by decide : (0 : ℕ) + 1 ≤ 1)
  · exact (by decide : (0 : ℕ) + 1024 ≤ 1024)
  · show 256 * k.val + 256 ≤ 3584; omega

theorem rows_inb (k : Fin 14) : ∀ a, (![0, 256 * k.val, 0] : Fin 3 → ℕ) a + S1x256x1024.size a ≤ S1x3584x1024.size a := by
  have := k.isLt
  intro a; fin_cases a
  · exact (by decide : (0 : ℕ) + 1 ≤ 1)
  · show 256 * k.val + 256 ≤ 3584; omega
  · exact (by decide : (0 : ℕ) + 1024 ≤ 1024)

/-- Columns `256k … 256k+255` of an expert's first two matrices, -/
def colsAt (W : S1x1024x3584.Idx → Elt F .bf16) (k : Fin 14) : Vec F S1x1024x256 .bf16 := fun y =>
  W ((Rect.unit (s := S1x1024x3584) ![0, 0, 256 * k.val] S1x1024x256.size (cols_inb k)).toLoadRect.idx y)
/-- and as many rows of its third. -/
def rowsAt (W : S1x3584x1024.Idx → Elt F .bf16) (k : Fin 14) : Vec F S1x256x1024 .bf16 := fun y =>
  W ((Rect.unit (s := S1x3584x1024) ![0, 256 * k.val, 0] S1x256x1024.size (rows_inb k)).toLoadRect.idx y)

/-- Chunk `k` of an expert. -/
def chunkAt (X : Vec F S1024x1024 .bf16) (g u : S1x1024x3584.Idx → Elt F .bf16) (d : S1x3584x1024.Idx → Elt F .bf16) (k : Fin 14) :
    FVec F S1024x1024 .f32 := chunk X (colsAt g k) (colsAt u k) (rowsAt d k)

/-- The expert's output on a tile, accumulated chunk after chunk. -/
def moeOut (X : Vec F S1024x1024 .bf16) (g u : S1x1024x3584.Idx → Elt F .bf16) (d : S1x3584x1024.Idx → Elt F .bf16) : FVec F S1024x1024 .f32 :=
  addf (addf (addf (addf (addf (addf (addf (addf (addf (addf (addf (addf (addf (chunkAt X g u d 0) (chunkAt X g u d 1)) (chunkAt X g u d 2)) (chunkAt X g u d 3))
    (chunkAt X g u d 4)) (chunkAt X g u d 5)) (chunkAt X g u d 6)) (chunkAt X g u d 7)) (chunkAt X g u d 8)) (chunkAt X g u d 9)) (chunkAt X g u d 10))
    (chunkAt X g u d 11)) (chunkAt X g u d 12)) (chunkAt X g u d 13)

/-- The rows a tile gathers, as the matrix unit takes them. -/
def gathered (x1 : S32768x1024.Idx → Elt F .f32) (wd : Fin 1024 → BitVec 32) : Vec F S1024x1024 .bf16 :=
  k0_pay3 fun y => slab x1 wd (ix3 (0 : Fin 2) (y 1) (y 2))

theorem access_sub (i : grid0.Coords) (s : Fin 2) (h : k0_off13 i = ![s.val, 0, 0]) (hin : ∀ a, k0_off13 i a + S1x1024x1024.size a ≤ S2x1024x1024.size a) :
    (Memref.whole cc0_scratch0 : Memref sig .tc .vmem S2x1024x1024 .f32).view.setOn (Rect.unit (s := S2x1024x1024) (k0_off13 i) S1x1024x1024.size hin).set ⊆ slotSet s := by
  intro y hy
  obtain ⟨x, hx, rfl⟩ := Finset.mem_map.mp hy
  have h0 : k0_off13 i 0 = s.val := by rw [h]; rfl
  have hx0 : k0_off13 i 0 ≤ (x 0).val ∧ (x 0).val < k0_off13 i 0 + 1 := Rect.mem_set_unit.mp hx 0
  refine (mem_slotSet s _).mpr ?_
  show (x 0).val = s.val
  omega

theorem load_slab (i : grid0.Coords) (s : Fin 2) (h : k0_off13 i = ![s.val, 0, 0]) (hin : ∀ a, k0_off13 i a + S1x1024x1024.size a ≤ S2x1024x1024.size a)
    (x1 : S32768x1024.Idx → Elt F .f32) (wd : Fin 1024 → BitVec 32) :
    View.readAt (Elt F) (Memref.whole cc0_scratch0 : Memref sig .tc .vmem S2x1024x1024 .f32).view (Rect.unit (s := S2x1024x1024) (k0_off13 i) S1x1024x1024.size hin).toLoadRect (slab x1 wd)
      = fun y : S1x1024x1024.Idx => slab x1 wd (ix3 (0 : Fin 2) (y 1) (y 2)) := by
  funext y
  have h1 : k0_off13 i 1 = 0 := by rw [h]; rfl
  have h2 : k0_off13 i 2 = 0 := by rw [h]; rfl
  have e1 : (Rect.unit (s := S2x1024x1024) (k0_off13 i) S1x1024x1024.size hin).toLoadRect.idx y 1 = y 1 :=
    Fin.ext (by show k0_off13 i 1 + 1 * (y 1).val = (y 1).val; omega)
  have e2 : (Rect.unit (s := S2x1024x1024) (k0_off13 i) S1x1024x1024.size hin).toLoadRect.idx y 2 = y 2 :=
    Fin.ext (by show k0_off13 i 2 + 1 * (y 2).val = (y 2).val; omega)
  exact congrArg x1 (congrArg₂ (fun (a b : Fin 1024) => (ix2 (⟨(wd a).toNat % 32768, Nat.mod_lt _ (by decide)⟩ : Fin 32768) b : S32768x1024.Idx)) e1 e2)

/-- The contents a run leaves, by what they read. -/
theorem leaves {sp : Space} {S : Shape} {e : EltTy} (c : Dev nD) (M : Memref sig .tc sp S e) (f : Bf (F := F) c M) (v : S.Idx → Elt F e) (h : M.view.read (Elt F) f = v) :
    (pt c M f : sProp 𝕄) ⊢ iprop(∃ f', ⌜M.view.read (Elt F) f' = v⌝ ∗ pt c M f') := by
  iintro H
  iexists f
  isplitr [H]
  · ipureintro; exact h
  iexact H

set_option maxRecDepth 65536 in
/-- A tile in use: its rows are waited for, its expert applied to them. -/
theorem tile (c : Dev nD) (i : grid0.Coords) (M3 : Memref sig .tc .smem S1x1x1024 .i32) (h3 : M3.IsWhole) (M4 : Memref sig .tc .smem S1x1x1024 .i32) (h4 : M4.IsWhole)
    (M6 : Memref sig .tc .vmem S1x1024x3584 .bf16) (h6 : M6.IsWhole) (M7 : Memref sig .tc .vmem S1x1024x3584 .bf16) (h7 : M7.IsWhole)
    (M8 : Memref sig .tc .vmem S1x3584x1024 .bf16) (h8 : M8.IsWhole) (M9 : Memref sig .tc .vmem S1024x1024 .f32) (h9 : M9.IsWhole)
    (v9 : BitVec 32) (x1 : S32768x1024.Idx → Elt F .f32) (wd : Fin 1024 → BitVec 32)
    (s : Fin 2) (h10o : k0_off10 i = ![s.val]) (h11o : k0_off11 i = ![s.val, 0, 0]) (h13o : k0_off13 i = ![s.val, 0, 0])
    (Xb : S1024x1024.Idx → Elt F .bf16) (f6 : Bf (F := F) c M6) (f7 : Bf (F := F) c M7) (f8 : Bf (F := F) c M8) (f9 : Bf (F := F) c M9) (Q : PUnit → sProp 𝕄) (K : Prog (TpuEff nD τ sig (Elt F) Λ₀ .tc) PUnit) :
    iprop(slotFlight c x1 wd s ∗ (∃ W, owes (c : Thread nD τ) 0 W) ∗ pt c (Memref.whole cc0_scratch1) Xb ∗ pt c M6 f6 ∗ pt c M7 f7 ∗ pt c M8 f8 ∗ pt c M9 f9
        ∗ (((∃ Xb', pt c (Memref.whole cc0_scratch1) Xb') ∗ slotIdle c x1 s ∗ (∃ W, owes (c : Thread nD τ) 0 W) ∗ pt c M6 f6 ∗ pt c M7 f7 ∗ pt c M8 f8
            ∗ (∃ f, ⌜M9.view.read (Elt F) f = moeOut (gathered x1 wd) (M6.view.read (Elt F) f6) (M7.view.read (Elt F) f7) (M8.view.read (Elt F) f8)⌝ ∗ pt c M9 f))
          -∗ wp frame (wpE (defs₀ (F := F)) 𝒱₀ (c : Thread nD τ) none) Set.univ K Q))
      ⊢ wp frame (wpE (defs₀ (F := F)) 𝒱₀ (c : Thread nD τ) none) Set.univ
        (do
          let v365 : FVec F S1024x1024 .f32 ← k0_part11 (F := F) i (Memref.whole main_arg2) (Memref.isWhole_whole _) (Memref.whole main_arg3) (Memref.isWhole_whole _) M3 h3 M4 h4
            (Memref.whole main_arg0) (Memref.isWhole_whole _) M6 h6 M7 h7 M8 h8 M9 h9 (Memref.whole cc0_scratch0) (Memref.isWhole_whole _)
            (Memref.whole cc0_scratch1) (Memref.isWhole_whole _) cc0_scratch2 v9
          let v366 : Vec F S1024x1024 .f32 ← Prog.lift (.load M9 (Rect.unit (s := S1024x1024) ![0, 0] S1024x1024.size inb_S1024x1024_S1024x1024_0_0).toLoadRect (View.loadsAt_vmem h_S1024x1024))
          let _v369 : Vec F S1024x1024 .f32 ← Prog.lift (.load M9 (Rect.unit (s := S1024x1024) ![0, 0] S1024x1024.size inb_S1024x1024_S1024x1024_0_0).toLoadRect (View.loadsAt_vmem h_S1024x1024))
          Prog.lift (.store M9 (Rect.unit (s := S1024x1024) ![0, 0] S1024x1024.size inb_S1024x1024_S1024x1024_0_0) (k0_pay1 v365 v366) Finset.univ (View.stores_vmem_bits_univ h_S1024x1024 rfl) (.inl rfl))
          K : Prog (TpuEff nD τ sig (Elt F) Λ₀ .tc) PUnit) Q := by
  iintro ⟨HF, HO, Hx, H6, H7, H8, H9, HQ⟩
  rw [k0_part11_eq_skeleton]; unfold k0_part11_skel
  rw [k0_part1_eq_skeleton]; unfold k0_part1_skel
  simp only [Prog.bind_assoc]
  rw [wp_bind]
  iapply (run3 c i M3 h3 M4 h4 M6 h6 M7 h7 M8 h8 M9 h9 v9 x1 wd s h10o h11o)
  isplitl [HF]; · iexact HF
  isplitl [HO]; · iexact HO
  iintro ⟨HF, HO⟩
  unfold slotFull
  icases HF with ⟨HF, Ht, Hs⟩
  iapply (wp_load 𝒱₀ (c : Thread nD τ) none Set.univ (m := Memref.whole cc0_scratch0) (S := slotSet s) (f := slab x1 wd) (q := fullShare) ?_) $$ HF
  · exact access_sub i s h13o _
  iintro HF
  simp only [ret_bind']
  rw [load_slab i s h13o]
  sl_exec_parts
  iapply HQ
  isplitl [Hx]; · iexists _; iexact Hx
  isplitl [HF Ht Hs]
  · iapply (slotFull_idle c x1 wd s)
    unfold slotFull
    isplitl [HF]; · iexact HF
    isplitl [Ht]; · iexact Ht
    iexact Hs
  isplitl [HO]; · iexact HO
  isplitl [H6]; · iexact H6
  isplitl [H7]; · iexact H7
  isplitl [H8]; · iexact H8
  iapply (leaves c M9 _ _ ?_) $$ H9
  refine (View.read_writes_full M9.view f9 _ _ _).trans ?_
  delta tile.sl.v58 tile.sl.a tile.sl.cst_169 tile.sl.v78 tile.sl.v102 tile.sl.v126 tile.sl.v150 tile.sl.v174 tile.sl.v198 tile.sl.v222 tile.sl.v246 tile.sl.v270 tile.sl.v294 tile.sl.v318 tile.sl.v366 tile.sl.a_1 tile.sl.r tile.sl.r_1 tile.sl.r_2 tile.sl.r_3 tile.sl.r_4 tile.sl.r_5 tile.sl.r_6 tile.sl.r_7 tile.sl.r_8 tile.sl.r_9 tile.sl.r_10 tile.sl.r_11 tile.sl.r_12 tile.sl.r_13 tile.sl.r_14 tile.sl.H9_1 tile.sl.H9_2 tile.sl.H9_3 tile.sl.H9_4 tile.sl.H9_5 tile.sl.H9_6 tile.sl.H9_7 tile.sl.H9_8 tile.sl.H9_9 tile.sl.H9_10 tile.sl.H9_11 tile.sl.H9_12 tile.sl.H9_13 tile.sl.Hx_1
  simp only [View.readCov_cons_toLoadRect, pay5_eq, pay8_eq, pay10_eq, pay11_eq, pay12_eq, pay14_eq, pay18_eq, pay20_eq, pay21_eq, pay22_eq, pay26_eq, pay29_eq, pay1_eq, pay4_eq]
  rfl

end Cert.Proof.Experts

end
-- ==== Proof.Experts.Body.lean ====
module

public import proofs.«01_k».proof.Proof.Experts.Compute

@[expose] public section

noncomputable section

namespace Cert.Proof.Experts

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The grid point's conditions and slots -/

theorem slt_iff (x y : BitVec 32) : Scalar.cmpi .slt x y = 1#1 ↔ x.toInt < y.toInt := by
  show BitVec.ofBool (x.slt y) = 1#1 ↔ _
  rw [← BitVec.slt_iff_toInt_lt]
  cases x.slt y <;> decide

theorem sge_iff (x y : BitVec 32) : Scalar.cmpi .sge x y = 1#1 ↔ ¬ x.toInt < y.toInt := by
  show BitVec.ofBool (y.sle x) = 1#1 ↔ _
  rw [Int.not_lt, ← BitVec.sle_iff_toInt_le]
  cases y.sle x <;> decide

theorem flag (b : BitVec 1) : Scalar.cmpi .ne (Scalar.extui b) 0#32 = b := by revert b; decide

theorem lt71 (i : grid0.Coords) : (i 0).val < 71 := (i 0).isLt

theorem coord_toInt (t : ℕ) (h : t < 72) : (BitVec.ofNat 32 t).toInt = (t : ℤ) := by
  interval_cases t <;> rfl

theorem cond1_iff (i : grid0.Coords) (v : BitVec 32) : k0_cond1 i v = 1#1 ↔ (i 0).val = 0 ∧ ((i 0).val : ℤ) < v.toInt := by
  have h := lt71 i
  show Scalar.cmpi .ne (Scalar.extui (Scalar.andi (Scalar.cmpi .eq (BitVec.ofNat 32 (i 0).val) 0#32) (Scalar.cmpi .slt 0#32 v))) 0#32 = 1#1 ↔ _
  rw [flag]
  have e1 : Scalar.cmpi .eq (BitVec.ofNat 32 (i 0).val) 0#32 = 1#1 ↔ (i 0).val = 0 := by
    revert h; generalize (i 0).val = t; intro h; interval_cases t <;> decide
  have e2 : Scalar.cmpi .slt 0#32 v = 1#1 ↔ (0 : ℤ) < v.toInt := slt_iff _ _
  have e3 : ∀ a b : BitVec 1, Scalar.andi a b = 1#1 ↔ a = 1#1 ∧ b = 1#1 := by decide
  rw [e3, e1, e2]
  constructor
  · rintro ⟨a, b⟩; exact ⟨a, by rw [a]; exact b⟩
  · rintro ⟨a, b⟩; rw [a] at b; exact ⟨a, b⟩

theorem cond2_iff (i : grid0.Coords) (v : BitVec 32) : k0_cond2 i v = 1#1 ↔ (((i 0).val + 1 : ℕ) : ℤ) < v.toInt := by
  have h := lt71 i
  show Scalar.cmpi .ne (Scalar.extui (Scalar.cmpi .slt (BitVec.ofNat 32 (i 0).val + 1#32) v)) 0#32 = 1#1 ↔ _
  rw [flag, slt_iff, ← BitVec.ofNat_add, coord_toInt _ (by omega)]

theorem cond3_iff (i : grid0.Coords) (v : BitVec 32) : k0_cond3 i v = 1#1 ↔ ((i 0).val : ℤ) < v.toInt := by
  have h := lt71 i
  show Scalar.cmpi .ne (Scalar.extui (Scalar.cmpi .slt (BitVec.ofNat 32 (i 0).val) v)) 0#32 = 1#1 ↔ _
  rw [flag, slt_iff, coord_toInt _ (by omega)]

theorem cond4_iff (i : grid0.Coords) (v : BitVec 32) : k0_cond4 i v = 1#1 ↔ ¬ ((i 0).val : ℤ) < v.toInt := by
  have h := lt71 i
  show Scalar.cmpi .ne (Scalar.extui (Scalar.cmpi .sge (BitVec.ofNat 32 (i 0).val) v)) 0#32 = 1#1 ↔ _
  rw [flag, sge_iff, coord_toInt _ (by omega)]

/-- The slot of tile `t`. -/
def sl (t : ℕ) : Fin 2 := ⟨t % 2, Nat.mod_lt _ (by decide)⟩

theorem sl_two (t : ℕ) : sl (t + 2) = sl t := Fin.ext (Nat.add_mod_right t 2)

theorem off10_eq (i : grid0.Coords) : k0_off10 i = ![(sl (i 0).val).val] := by
  have h := lt71 i
  unfold k0_off10 sl
  revert h; generalize (i 0).val = t; intro h; interval_cases t <;> rfl
theorem off11_eq (i : grid0.Coords) : k0_off11 i = ![(sl (i 0).val).val, 0, 0] := by
  have h := lt71 i
  unfold k0_off11 sl
  revert h; generalize (i 0).val = t; intro h; interval_cases t <;> rfl
theorem off13_eq (i : grid0.Coords) : k0_off13 i = ![(sl (i 0).val).val, 0, 0] := by
  have h := lt71 i
  unfold k0_off13 sl
  revert h; generalize (i 0).val = t; intro h; interval_cases t <;> rfl
theorem off6_eq (i : grid0.Coords) : k0_off6 i = ![(sl ((i 0).val + 1)).val] := by
  have h := lt71 i
  unfold k0_off6 sl
  revert h; generalize (i 0).val = t; intro h; interval_cases t <;> rfl
theorem off7_eq (i : grid0.Coords) : k0_off7 i = ![(sl ((i 0).val + 1)).val, 0, 0] := by
  have h := lt71 i
  unfold k0_off7 sl
  revert h; generalize (i 0).val = t; intro h; interval_cases t <;> rfl

/-! ## What the slots hold between the points -/

/-- Tile `t` is in use. -/
def Live (nv : BitVec 32) (t : ℕ) : Prop := (t : ℤ) < nv.toInt

instance (nv : BitVec 32) (t : ℕ) : Decidable (Live nv t) := Int.decLt _ _

section State

variable (c : Dev nD) (x1 : S32768x1024.Idx → Elt F .f32) (wd : ℕ → Fin 1024 → BitVec 32) (nv : BitVec 32)

/-- The slot of tile `t`: its gathers in flight if `p`, idle otherwise. -/
def slotIf (p : Prop) [Decidable p] (t : ℕ) : sProp 𝕄 := if p then slotFlight c x1 (wd t) (sl t) else slotIdle c x1 (sl t)

/-- Before point `t`: the gathers of tile `t` were issued by the point before. -/
def slotsAt (t : ℕ) : sProp 𝕄 := iprop(slotIdle c x1 (sl (t + 1)) ∗ slotIf c x1 wd (0 < t ∧ Live nv t) t)

theorem slotIf_pos {p : Prop} [Decidable p] (h : p) (t : ℕ) : slotIf c x1 wd p t = slotFlight c x1 (wd t) (sl t) := if_pos h
theorem slotIf_neg {p : Prop} [Decidable p] (h : ¬ p) (t : ℕ) : slotIf c x1 wd p t = slotIdle c x1 (sl t) := if_neg h
theorem slotIf_congr {p q : Prop} [Decidable p] [Decidable q] (h : p ↔ q) (t : ℕ) : slotIf c x1 wd p t = slotIf c x1 wd q t := by
  by_cases hp : p
  · rw [slotIf_pos c x1 wd hp, slotIf_pos c x1 wd (h.mp hp)]
  · rw [slotIf_neg c x1 wd hp, slotIf_neg c x1 wd (fun hq => hp (h.mpr hq))]

end State

section Body

variable (c : Dev nD) (i : grid0.Coords) (M3 : Memref sig .tc .smem S1x1x1024 .i32) (h3 : M3.IsWhole) (M4 : Memref sig .tc .smem S1x1x1024 .i32) (h4 : M4.IsWhole)
    (M6 : Memref sig .tc .vmem S1x1024x3584 .bf16) (h6 : M6.IsWhole) (M7 : Memref sig .tc .vmem S1x1024x3584 .bf16) (h7 : M7.IsWhole)
    (M8 : Memref sig .tc .vmem S1x3584x1024 .bf16) (h8 : M8.IsWhole) (M9 : Memref sig .tc .vmem S1024x1024 .f32) (h9 : M9.IsWhole)
    (x1 : S32768x1024.Idx → Elt F .f32) (wd : ℕ → Fin 1024 → BitVec 32)
    (f3 : Bf (F := F) c M3) (f4 : Bf (F := F) c M4)

/-- The first tile's gathers, issued at the first point if that tile is in use. -/
theorem phase1 (Q : PUnit → sProp 𝕄) (K : Prog (TpuEff nD τ sig (Elt F) Λ₀ .tc) PUnit)
    (v11 : BitVec 32) (hw : ∀ r, (wd (i 0).val r).toNat < 32768) (h3w : wordOf c M3 f3 = wd (i 0).val) :
    iprop(pt c M3 f3 ∗ slotIf c x1 wd (0 < (i 0).val ∧ Live v11 (i 0).val) (i 0).val
        ∗ ((pt c M3 f3 ∗ slotIf c x1 wd (Live v11 (i 0).val) (i 0).val) -∗ wp frame (wpE (defs₀ (F := F)) 𝒱₀ (c : Thread nD τ) none) Set.univ K Q))
      ⊢ wp frame (wpE (defs₀ (F := F)) 𝒱₀ (c : Thread nD τ) none) Set.univ
        (if hc : k0_cond1 i v11 = 1#1 then
          Scf.Loop.for k0_t1_loop k0_t1_ok ⟨⟩ (k0_t1_body (F := F) i (Memref.whole main_arg2) (Memref.isWhole_whole _) (Memref.whole main_arg3) (Memref.isWhole_whole _) M3 h3 M4 h4
            (Memref.whole main_arg0) (Memref.isWhole_whole _) M6 h6 M7 h7 M8 h8 M9 h9 (Memref.whole cc0_scratch0) (Memref.isWhole_whole _)
            (Memref.whole cc0_scratch1) (Memref.isWhole_whole _) cc0_scratch2 v11 hc) >>= fun _ => K
        else K) Q := by
  by_cases hc : k0_cond1 i v11 = 1#1
  · obtain ⟨h0, hl⟩ := (cond1_iff i v11).mp hc
    have hl : Live v11 (i 0).val := hl
    rw [dif_pos hc, slotIf_neg c x1 wd (by omega), slotIf_pos c x1 wd hl]
    have hs : sl (i 0).val = 0 := by rw [h0]; rfl
    rw [hs, ← h3w]
    iintro ⟨H3, Hs, HQ⟩
    rw [wp_bind]
    iapply (run1 c i M3 h3 M4 h4 M6 h6 M7 h7 M8 h8 M9 h9 v11 hc x1 f3 (by rw [h3w]; exact hw))
    isplitl [H3]; · iexact H3
    isplitl [Hs]; · iexact Hs
    iexact HQ
  · rw [dif_neg hc]
    have : (0 < (i 0).val ∧ Live v11 (i 0).val) ↔ Live v11 (i 0).val := by
      constructor
      · exact And.right
      · intro hl
        refine ⟨?_, hl⟩
        by_contra h0
        exact hc ((cond1_iff i v11).mpr ⟨by omega, hl⟩)
    rw [slotIf_congr c x1 wd this]
    iintro ⟨H3, Hs, HQ⟩
    iapply HQ
    isplitl [H3]; · iexact H3
    iexact Hs

/-- The next tile's gathers, issued ahead of this tile's products. -/
theorem phase2 (Q : PUnit → sProp 𝕄) (K : Prog (TpuEff nD τ sig (Elt F) Λ₀ .tc) PUnit)
    (v17 : BitVec 32) (hw : Live v17 ((i 0).val + 1) → ∀ r, (wd ((i 0).val + 1) r).toNat < 32768)
    (h4w : Live v17 ((i 0).val + 1) → wordOf c M4 f4 = wd ((i 0).val + 1)) :
    iprop(pt c M4 f4 ∗ slotIdle c x1 (sl ((i 0).val + 1))
        ∗ ((pt c M4 f4 ∗ slotIf c x1 wd (0 < (i 0).val + 1 ∧ Live v17 ((i 0).val + 1)) ((i 0).val + 1)) -∗ wp frame (wpE (defs₀ (F := F)) 𝒱₀ (c : Thread nD τ) none) Set.univ K Q))
      ⊢ wp frame (wpE (defs₀ (F := F)) 𝒱₀ (c : Thread nD τ) none) Set.univ
        (if hc : k0_cond2 i v17 = 1#1 then
          Scf.Loop.for k0_t2_loop k0_t2_ok ⟨⟩ (k0_t2_body (F := F) i (Memref.whole main_arg2) (Memref.isWhole_whole _) (Memref.whole main_arg3) (Memref.isWhole_whole _) M3 h3 M4 h4
            (Memref.whole main_arg0) (Memref.isWhole_whole _) M6 h6 M7 h7 M8 h8 M9 h9 (Memref.whole cc0_scratch0) (Memref.isWhole_whole _)
            (Memref.whole cc0_scratch1) (Memref.isWhole_whole _) cc0_scratch2 v17 hc) >>= fun _ => K
        else K) Q := by
  by_cases hc : k0_cond2 i v17 = 1#1
  · have hl : Live v17 ((i 0).val + 1) := (cond2_iff i v17).mp hc
    rw [dif_pos hc, slotIf_pos c x1 wd ⟨Nat.succ_pos _, hl⟩, ← h4w hl]
    iintro ⟨H4, Hs, HQ⟩
    rw [wp_bind]
    iapply (run2 c i M3 h3 M4 h4 M6 h6 M7 h7 M8 h8 M9 h9 v17 hc x1 f4 (sl ((i 0).val + 1)) (off6_eq i) (off7_eq i) (by rw [h4w hl]; exact hw hl))
    isplitl [H4]; · iexact H4
    isplitl [Hs]; · iexact Hs
    iexact HQ
  · rw [dif_neg hc, slotIf_neg c x1 wd (fun h => hc ((cond2_iff i v17).mpr h.2))]
    iintro ⟨H4, Hs, HQ⟩
    iapply HQ
    isplitl [H4]; · iexact H4
    iexact Hs

/-- What the point leaves in the output block. -/
def tileOut (x1 : S32768x1024.Idx → Elt F .f32) (wd : Fin 1024 → BitVec 32) (p : Prop) [Decidable p] (g u : S1x1024x3584.Idx → Elt F .bf16)
    (d : S1x3584x1024.Idx → Elt F .bf16) : S1024x1024.Idx → Elt F .f32 :=
  if p then moeOut (gathered x1 wd) g u d else k0_pay2

/-- The tile's products, where it is in use. -/
theorem phase3 (Q : PUnit → sProp 𝕄) (K : Prog (TpuEff nD τ sig (Elt F) Λ₀ .tc) PUnit)
    (v9 v21 : BitVec 32) (Xb : S1024x1024.Idx → Elt F .bf16) (f6 : Bf (F := F) c M6) (f7 : Bf (F := F) c M7) (f8 : Bf (F := F) c M8) (f9 : Bf (F := F) c M9) :
    iprop(slotIf c x1 wd (Live v21 (i 0).val) (i 0).val ∗ (∃ W, owes (c : Thread nD τ) 0 W) ∗ pt c (Memref.whole cc0_scratch1) Xb ∗ pt c M6 f6 ∗ pt c M7 f7 ∗ pt c M8 f8 ∗ pt c M9 f9
        ∗ (((∃ Xb', pt c (Memref.whole cc0_scratch1) Xb') ∗ slotIdle c x1 (sl (i 0).val) ∗ (∃ W, owes (c : Thread nD τ) 0 W) ∗ pt c M6 f6 ∗ pt c M7 f7 ∗ pt c M8 f8
            ∗ (∃ f, ⌜Live v21 (i 0).val → M9.view.read (Elt F) f
                = moeOut (gathered x1 (wd (i 0).val)) (M6.view.read (Elt F) f6) (M7.view.read (Elt F) f7) (M8.view.read (Elt F) f8)⌝ ∗ pt c M9 f))
          -∗ wp frame (wpE (defs₀ (F := F)) 𝒱₀ (c : Thread nD τ) none) Set.univ K Q))
      ⊢ wp frame (wpE (defs₀ (F := F)) 𝒱₀ (c : Thread nD τ) none) Set.univ
        (if hc : k0_cond3 i v21 = 1#1 then (do
          let v365 : FVec F S1024x1024 .f32 ← k0_part11 (F := F) i (Memref.whole main_arg2) (Memref.isWhole_whole _) (Memref.whole main_arg3) (Memref.isWhole_whole _) M3 h3 M4 h4
            (Memref.whole main_arg0) (Memref.isWhole_whole _) M6 h6 M7 h7 M8 h8 M9 h9 (Memref.whole cc0_scratch0) (Memref.isWhole_whole _)
            (Memref.whole cc0_scratch1) (Memref.isWhole_whole _) cc0_scratch2 v9
          let v366 : Vec F S1024x1024 .f32 ← Prog.lift (.load M9 (Rect.unit (s := S1024x1024) ![0, 0] S1024x1024.size inb_S1024x1024_S1024x1024_0_0).toLoadRect (View.loadsAt_vmem h_S1024x1024))
          let _v369 : Vec F S1024x1024 .f32 ← Prog.lift (.load M9 (Rect.unit (s := S1024x1024) ![0, 0] S1024x1024.size inb_S1024x1024_S1024x1024_0_0).toLoadRect (View.loadsAt_vmem h_S1024x1024))
          Prog.lift (.store M9 (Rect.unit (s := S1024x1024) ![0, 0] S1024x1024.size inb_S1024x1024_S1024x1024_0_0) (k0_pay1 v365 v366) Finset.univ (View.stores_vmem_bits_univ h_S1024x1024 rfl) (.inl rfl))
          K)
        else K) Q := by
  by_cases hc : k0_cond3 i v21 = 1#1
  · have hl : Live v21 (i 0).val := (cond3_iff i v21).mp hc
    rw [dif_pos hc, slotIf_pos c x1 wd hl]
    iintro ⟨HF, HO, Hx, H6, H7, H8, H9, HQ⟩
    iapply (tile c i M3 h3 M4 h4 M6 h6 M7 h7 M8 h8 M9 h9 v9 x1 (wd (i 0).val) (sl (i 0).val) (off10_eq i) (off11_eq i) (off13_eq i) Xb f6 f7 f8 f9)
    isplitl [HF]; · iexact HF
    isplitl [HO]; · iexact HO
    isplitl [Hx]; · iexact Hx
    isplitl [H6]; · iexact H6
    isplitl [H7]; · iexact H7
    isplitl [H8]; · iexact H8
    isplitl [H9]; · iexact H9
    iintro ⟨Hx, HF, HO, H6, H7, H8, H9⟩
    iapply HQ
    isplitl [Hx]; · iexact Hx
    isplitl [HF]; · iexact HF
    isplitl [HO]; · iexact HO
    isplitl [H6]; · iexact H6
    isplitl [H7]; · iexact H7
    isplitl [H8]; · iexact H8
    icases H9 with ⟨%f, %hf, H9⟩
    iexists f
    isplitr [H9]
    · ipureintro; exact fun _ => hf
    iexact H9
  · have hl : ¬ Live v21 (i 0).val := fun h => hc ((cond3_iff i v21).mpr h)
    rw [dif_neg hc, slotIf_neg c x1 wd hl]
    iintro ⟨HF, HO, Hx, H6, H7, H8, H9, HQ⟩
    iapply HQ
    isplitl [Hx]; · iexists Xb; iexact Hx
    isplitl [HF]; · iexact HF
    isplitl [HO]; · iexact HO
    isplitl [H6]; · iexact H6
    isplitl [H7]; · iexact H7
    isplitl [H8]; · iexact H8
    iexists f9
    isplitr [H9]
    · ipureintro; exact fun h => absurd h hl
    iexact H9

theorem rd (nv : S1.Idx → Elt F .i32) (k : S1.Idx) : nv k = nv (ix1 (0 : Fin 1)) := congrArg nv (funext fun a => by fin_cases a; exact Subsingleton.elim (α := Fin 1) _ _)

/-- One grid point: the slots turn, and the output block gets the tile's value. -/
theorem point (Q : PUnit → sProp 𝕄)
    (nv : S1.Idx → Elt F .i32) (hw : ∀ n < 71, ∀ r, (wd n r).toNat < 32768) (h3w : wordOf c M3 f3 = wd (i 0).val)
    (h4w : (i 0).val + 1 < 71 → wordOf c M4 f4 = wd ((i 0).val + 1)) (hnv : (nv (ix1 (0 : Fin 1)) : BitVec 32).toInt ≤ 71)
    (f6 : Bf (F := F) c M6) (f7 : Bf (F := F) c M7) (f8 : Bf (F := F) c M8) (f9 : Bf (F := F) c M9) :
    iprop(pt c (Memref.whole main_arg3) nv ∗ pt c M3 f3 ∗ pt c M4 f4 ∗ (∃ W, owes (c : Thread nD τ) 0 W) ∗ (∃ Xb, pt c (Memref.whole cc0_scratch1) Xb)
        ∗ pt c M6 f6 ∗ pt c M7 f7 ∗ pt c M8 f8 ∗ pt c M9 f9 ∗ slotsAt c x1 wd (nv (ix1 (0 : Fin 1))) (i 0).val
        ∗ ((pt c (Memref.whole main_arg3) nv ∗ pt c M3 f3 ∗ pt c M4 f4 ∗ (∃ W, owes (c : Thread nD τ) 0 W) ∗ (∃ Xb, pt c (Memref.whole cc0_scratch1) Xb)
            ∗ pt c M6 f6 ∗ pt c M7 f7 ∗ pt c M8 f8
            ∗ (∃ f, ⌜M9.view.read (Elt F) f = tileOut x1 (wd (i 0).val) (Live (nv (ix1 (0 : Fin 1))) (i 0).val)
                (M6.view.read (Elt F) f6) (M7.view.read (Elt F) f7) (M8.view.read (Elt F) f8)⌝ ∗ pt c M9 f)
            ∗ slotsAt c x1 wd (nv (ix1 (0 : Fin 1))) ((i 0).val + 1)) -∗ Q ⟨⟩))
      ⊢ wp frame (wpE (defs₀ (F := F)) 𝒱₀ (c : Thread nD τ) none) Set.univ
        (cc0__moe_kernel (F := F) i (Memref.whole main_arg2) (Memref.isWhole_whole _) (Memref.whole main_arg3) (Memref.isWhole_whole _) M3 h3 M4 h4
            (Memref.whole main_arg0) (Memref.isWhole_whole _) M6 h6 M7 h7 M8 h8 M9 h9 (Memref.whole cc0_scratch0) (Memref.isWhole_whole _)
            (Memref.whole cc0_scratch1) (Memref.isWhole_whole _) cc0_scratch2) Q := by
  have hlive : ∀ n, Live (nv (ix1 (0 : Fin 1))) n → n < 71 := fun n (hn : (n : ℤ) < _) => by omega
  unfold slotsAt
  iintro ⟨HN, H3, H4, HO, Hx, H6, H7, H8, H9, ⟨Hi, Hf⟩, HQ⟩
  rw [cc0__moe_kernel_eq_skeleton]; unfold cc0__moe_kernel_skel
  sl_exec
  generalize hv : point.sl.r nv = v11
  have hv : v11 = nv (ix1 (0 : Fin 1)) := hv.symm.trans (rd nv _)
  subst hv
  iapply (phase1 c i M3 h3 M4 h4 M6 h6 M7 h7 M8 h8 M9 h9 x1 wd f3 Q _ _ (hw _ (lt71 i)) h3w)
  isplitl [H3]; · iexact H3
  isplitl [Hf]; · iexact Hf
  iintro ⟨H3, Hf⟩
  sl_exec
  generalize hv' : point.sl.r_1 nv = v17
  have hv' : v17 = nv (ix1 (0 : Fin 1)) := hv'.symm.trans (rd nv _)
  subst hv'
  iapply (phase2 c i M3 h3 M4 h4 M6 h6 M7 h7 M8 h8 M9 h9 x1 wd f4 Q _ _ (fun hl => hw _ (hlive _ hl)) (fun hl => h4w (hlive _ hl)))
  isplitl [H4]; · iexact H4
  isplitl [Hi]; · iexact Hi
  iintro ⟨H4, Hi⟩
  sl_exec
  generalize hv' : point.sl.r_2 nv = v21
  have hv' : v21 = nv (ix1 (0 : Fin 1)) := hv'.symm.trans (rd nv _)
  subst hv'
  icases Hx with ⟨%Xb, Hx⟩
  iapply (phase3 c i M3 h3 M4 h4 M6 h6 M7 h7 M8 h8 M9 h9 x1 wd Q _ _ _ Xb f6 f7 f8 f9)
  isplitl [Hf]; · iexact Hf
  isplitl [HO]; · iexact HO
  isplitl [Hx]; · iexact Hx
  isplitl [H6]; · iexact H6
  isplitl [H7]; · iexact H7
  isplitl [H8]; · iexact H8
  isplitl [H9]; · iexact H9
  iintro ⟨Hx, Hf, HO, H6, H7, H8, H9⟩
  icases H9 with ⟨%f, %hf, H9⟩
  sl_exec
  generalize hv' : point.sl.r_3 nv = v25
  have hv' : v25 = nv (ix1 (0 : Fin 1)) := hv'.symm.trans (rd nv _)
  subst hv'
  sl_step
  iapply HQ
  isplitl [HN]; · iexact HN
  isplitl [H3]; · iexact H3
  isplitl [H4]; · iexact H4
  isplitl [HO]; · iexact HO
  isplitl [Hx]; · iexact Hx
  isplitl [H6]; · iexact H6
  isplitl [H7]; · iexact H7
  isplitl [H8]; · iexact H8
  isplitl [H9]
  · iapply (leaves c M9 _ _ ?_) $$ H9
    unfold tileOut
    by_cases hl : Live (nv (ix1 (0 : Fin 1))) (i 0).val
    · rw [dif_neg (fun h => (cond4_iff i _).mp h hl), if_pos hl]; exact hf hl
    · rw [dif_pos ((cond4_iff i _).mpr hl), if_neg hl]; exact View.read_writes_full M9.view f _ _ _
  rw [show (i 0).val + 1 + 1 = (i 0).val + 2 from rfl, sl_two]
  isplitl [Hf]; · iexact Hf
  iexact Hi

end Body

end Cert.Proof.Experts

end
-- ==== Proof.Experts.Tables.lean ====
/-
  The two tables the launch prefetches, and what the precondition says of the integer arguments.

  `te0` and `nv0` are the expert of each tile and the count of tiles in use, as launched. The pipeline's blocks of the
  three weights are the block of the tile's expert, so the region's side condition is that every expert is below eight
  (`ok_pfN`). `Routed` is the precondition read as bounds: every gathered row below 32768, every expert below eight, at
  most 71 tiles in use; `routed_of_fn` reads them off the predicate.
-/
module

public import proofs.«01_k».proof.Proof.Experts.Body
public import proofs.«01_k».proof.Proof.Gen.KernelIdeal.Launch
public import proofs.«01_k».proof.Proof.Gen.Pre_routed

@[expose] public section

noncomputable section

namespace Cert.Proof.Experts

open Cert.KernelIdeal Cert.KernelIdeal.Gen

open Idealize.ShloMosaic Idealize.ShloMosaic.TcCoe Idealize.ShloMosaic.ValueIdx

variable {F : FTy → Type} [FloatOps F]

/-! ## The precondition as bounds -/

theorem ofBool_one (p : Bool) : (BitVec.ofBool p = 1#1) ↔ p = true := by cases p <;> decide

theorem bit_and (x y : BitVec 1) : IntOp.andi x y = 1#1 ↔ x = 1#1 ∧ y = 1#1 := by revert x y; decide

/-- A word that is at least zero and less than `b` as a signed number is less than `b` as a count. -/
theorem toNat_lt_of (v b : BitVec 32) (h0 : IntOp.cmpi .sge v 0#32 = 1#1) (hb : IntOp.cmpi .slt v b = 1#1) (hp : b.toInt = b.toNat) :
    v.toNat < b.toNat := by
  have h0 := (ofBool_one _).mp h0
  have hb := (ofBool_one _).mp hb
  simp only [BitVec.sle, BitVec.slt, decide_eq_true_eq] at h0 hb
  have hz : (0#32 : BitVec 32).toInt = 0 := rfl
  rw [hz] at h0
  rw [hp, BitVec.toInt_eq_toNat_of_lt (by rw [BitVec.toInt_eq_toNat_cond] at h0; split at h0 <;> omega)] at hb
  omega

/-- The predicate at tile `t` and row `r` bounds the words it reads there. -/
theorem routed_at (a0 : FVec F Pre_routed.S32768x1024 .f32) (a1 : IVec Pre_routed.S72704 32) (a2 : IVec Pre_routed.S71 32) (a3 : IVec Pre_routed.S1 32)
    (a4 a5 : FVec F Pre_routed.S8x1024x3584 .f32) (a6 : FVec F Pre_routed.S8x3584x1024 .f32)
    (h : Pre_routed.fn (F := F) a0 a1 a2 a3 a4 a5 a6 = fun _ => 1#1) (j : Pre_routed.S71x1024.Idx) :
    (shapeCast Pre_routed.S71x1024 a1 Pre_routed.Facts.shapeCasts_S72704_S71x1024 j).toNat < 32768
      ∧ (a2 (ix1 (j 0))).toNat < 8 ∧ (a3 (ix1 (0 : Fin 1))).toInt ≤ 71 := by
  have h := congrFun h j
  unfold Pre_routed.fn Pre_routed.fn_part1 at h
  obtain ⟨h, hn⟩ := (bit_and _ _).mp h
  obtain ⟨h, he⟩ := (bit_and _ _).mp h
  obtain ⟨h, he0⟩ := (bit_and _ _).mp h
  obtain ⟨hs0, hs⟩ := (bit_and _ _).mp h
  refine ⟨toNat_lt_of _ 32768#32 hs0 hs rfl, ?_, ?_⟩
  · have e : ∀ y : Pre_routed.S71.Idx, (y 0).val = (j 0).val → y = ix1 (j 0) := fun y hy => funext fun a => by fin_cases a; exact Fin.ext hy
    have key : ∀ y : Pre_routed.S71.Idx, (y 0).val = (j 0).val → (a2 (ix1 (j 0))).toNat = (a2 y).toNat := fun y hy => congrArg (fun y => (a2 y).toNat) (e y hy).symm
    have hh := toNat_lt_of _ 8#32 he0 he rfl
    refine lt_of_eq_of_lt (key _ ?_) hh
    rfl
  · have e : ∀ y : Pre_routed.S1.Idx, y = ix1 (0 : Fin 1) := fun y => funext fun a => by fin_cases a; exact Subsingleton.elim (α := Fin 1) _ _
    have hn := (ofBool_one _).mp hn
    simp only [BitVec.sle, decide_eq_true_eq] at hn
    exact (congrArg (fun y => (a3 y).toInt) (e _).symm).trans_le hn

/-- What the precondition says of the integer arguments: `s` the gathered rows, `te` the tiles' experts, `nv` the count of tiles in use. -/
structure RoutedW (s : S72704.Idx → BitVec 32) (te : S71.Idx → BitVec 32) (nv : S1.Idx → BitVec 32) : Prop where
  src : ∀ x, (s x).toNat < 32768
  expert : ∀ x, (te x).toNat < 8
  used : (nv (ix1 (0 : Fin 1))).toInt ≤ 71

theorem routed_of_fn (a0 : FVec F Pre_routed.S32768x1024 .f32) (a1 : IVec Pre_routed.S72704 32) (a2 : IVec Pre_routed.S71 32) (a3 : IVec Pre_routed.S1 32)
    (a4 a5 : FVec F Pre_routed.S8x1024x3584 .f32) (a6 : FVec F Pre_routed.S8x3584x1024 .f32)
    (h : Pre_routed.fn (F := F) a0 a1 a2 a3 a4 a5 a6 = fun _ => 1#1) : RoutedW a1 a2 a3 := by
  have hr := routed_at a0 a1 a2 a3 a4 a5 a6 h
  refine ⟨fun x => ?_, fun x => ?_, (hr (ix2 0 0)).2.2⟩
  · have := (hr ((Shape.reshapeEquiv Pre_routed.Facts.shapeCasts_S72704_S71x1024).symm x)).1
    unfold shapeCast at this
    rwa [Equiv.apply_symm_apply] at this
  · have e : x = ix1 (x 0) := funext fun a => by fin_cases a; rfl
    rw [e]
    exact (hr (ix2 (x 0) 0)).2.1

/-! ## The tables -/

variable (m : (ℓ : Loc nD τ sig) → Buf (Elt F) ℓ)

/-- The gathered rows as launched on core `c`; -/
def src0 (c : Dev nD) : S72704.Idx → BitVec 32 := m ((c : Thread nD τ).loc main_arg1)
/-- the tiles' experts; -/
def te0 (c : Dev nD) : S71.Idx → BitVec 32 := m ((c : Thread nD τ).loc main_arg2)
/-- the count of tiles in use. -/
def nv0 (c : Dev nD) : S1.Idx → BitVec 32 := m ((c : Thread nD τ).loc main_arg3)

/-- The precondition on every core. -/
abbrev Routed : Prop := ∀ c : Dev nD, RoutedW (src0 m c) (te0 m c) (nv0 m c)

set_option backward.proofsInPublic true in
/-- The tables' contents. -/
def pfN (te : S71.Idx → BitVec 32) (nv : S1.Idx → BitVec 32) : pre0.Contents (Elt F) := fun
  | ⟨0, _⟩ => te
  | ⟨1, _⟩ => nv
  | ⟨_ + 2, h⟩ => absurd h (by simp)

theorem expert_block (v : ℕ) (hv : v < 8) (a : Fin 3) : ((![v, 0, 0] : Fin 3 → ℕ) a + 1) * S1x1024x3584.size a ≤ S8x1024x3584.size a := by
  fin_cases a
  · show (v + 1) * 1 ≤ 8; omega
  · show (0 + 1) * 1024 ≤ 1024; omega
  · show (0 + 1) * 3584 ≤ 3584; omega

theorem expert_block' (v : ℕ) (hv : v < 8) (a : Fin 3) : ((![v, 0, 0] : Fin 3 → ℕ) a + 1) * S1x3584x1024.size a ≤ S8x3584x1024.size a := by
  fin_cases a
  · show (v + 1) * 1 ≤ 8; omega
  · show (0 + 1) * 3584 ≤ 3584; omega
  · show (0 + 1) * 1024 ≤ 1024; omega

/-- The region's side condition: every block of the weights is one of the eight experts'. -/
theorem ok_pfN (te : S71.Idx → BitVec 32) (nv : S1.Idx → BitVec 32) (h : ∀ x, (te x).toNat < 8) : ok0 (F := F) (pfN te nv) := by
  unfold ok0
  refine ⟨fun i => ⟨fun a => expert_block _ (h _) a, .inr (Affine.block_words_rows (by decide) rfl)⟩,
    fun i => ⟨fun a => expert_block _ (h _) a, .inr (Affine.block_words_rows (by decide) rfl)⟩,
    fun i => ⟨fun a => expert_block' _ (h _) a, .inr (Affine.block_words_rows (by decide) rfl)⟩⟩

/-- The one core's tables, admissible. -/
abbrev adm (ok : Routed m) : (p : Fin 1) → (pcfgs (F := F) p).Adm := fun _ => ⟨pfN (te0 m 0) (nv0 m 0), ok_pfN _ _ (ok 0).expert⟩

end Cert.Proof.Experts

end
-- ==== Proof.Experts.Ends.lean ====
/-
  The ends of the launch: what the two gather slots are made of, and what they give back.

  At the region's entry the gather scratch, `x1` and the two scratch semaphores are two idle slots and a remainder of
  `x1` (`slots_in`); two idle slots and that remainder are those again (`slots_out`). Before the first point, and after the
  last, both slots are idle (`slotsAt_first`, `slotsAt_last`).
-/
module

public import proofs.«01_k».proof.Proof.Experts.Body

@[expose] public section

noncomputable section

namespace Cert.Proof.Experts

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## The gather scratch -/

theorem slots_univ : slotSet 0 ∪ slotSet 1 = Finset.univ := by
  refine Finset.eq_univ_of_forall fun y => ?_
  rw [Finset.mem_union, mem_slotSet, mem_slotSet]
  have h : (y 0).val < 2 := (y 0).isLt
  show (y 0).val = 0 ∨ (y 0).val = 1
  omega

theorem slots_disjoint : Disjoint (slotSet 0) (slotSet 1) :=
  Finset.disjoint_left.mpr fun y h0 h1 => by
    rw [mem_slotSet] at h0 h1
    have h0 : (y 0).val = 0 := h0
    have h1 : (y 0).val = 1 := h1
    omega

/-- The scratch held whole is its two slots' rows. -/
theorem scratch_in (c : Dev nD) (f : S2x1024x1024.Idx → Elt F .f32) :
    (((c : Thread nD τ).loc cc0_scratch0) ↦{fullShare} f : sProp 𝕄)
      ⊢ iprop(bigSep Finset.univ (rowAny c 0) ∗ bigSep Finset.univ (rowAny c 1)) := by
  refine (Entails.of_eq (congrArg (fun S : Finset S2x1024x1024.Idx => (((c : Thread nD τ).loc cc0_scratch0) ↦[S]{fullShare} f : sProp 𝕄)) slots_univ.symm)).trans ?_
  refine (pointsTo_union (ℓ := (c : Thread nD τ).loc cc0_scratch0) slots_disjoint).1.trans ?_
  exact BIClass.sep_mono (slot_any c 0 f) (slot_any c 1 f)

/-- A slot's rows, each at some contents, are the slot at some contents. -/
theorem slot_back (c : Dev nD) (s : Fin 2) :
    bigSep Finset.univ (rowAny c s) ⊢ (iprop(∃ f : S2x1024x1024.Idx → Elt F .f32, ((c : Thread nD τ).loc cc0_scratch0) ↦[slotSet s]{fullShare} f) : sProp 𝕄) := by
  classical
  have hf : ∀ S : Finset (Fin 1024), bigSep S (rowAny c s)
      ⊢ (iprop(∃ f : S2x1024x1024.Idx → Elt F .f32, ((c : Thread nD τ).loc cc0_scratch0) ↦[S.biUnion (rowSet s)]{fullShare} f) : sProp 𝕄) := fun S => by
    induction S using Finset.induction_on with
    | empty =>
      rw [BI.bigSep_empty]
      refine Entails.trans ?_ (exists_intro (fun _ => k0_pay2 (ix2 (0 : Fin 1024) (0 : Fin 1024))))
      exact Entails.of_eq (pointsTo_empty (ℓ := (c : Thread nD τ).loc cc0_scratch0)).symm
    | insert r S hr ih =>
      rw [BI.bigSep_insert hr]
      refine (BIClass.sep_mono .rfl ih).trans ?_
      unfold rowAny
      iintro ⟨⟨%g, Hg⟩, ⟨%f, Hf⟩⟩
      have hd : Disjoint (rowSet s r) (S.biUnion (rowSet s)) := by
        rw [Finset.disjoint_biUnion_right]
        exact fun r' hr' => rowSet_disjoint s r r' fun e => hr (e ▸ hr')
      iexists (S.biUnion (rowSet s)).piecewise f g
      iapply (show iprop((((c : Thread nD τ).loc cc0_scratch0) ↦[rowSet s r]{fullShare} g) ∗ ((c : Thread nD τ).loc cc0_scratch0) ↦[S.biUnion (rowSet s)]{fullShare} f)
          ⊢ (((c : Thread nD τ).loc cc0_scratch0) ↦[(insert r S).biUnion (rowSet s)]{fullShare} (S.biUnion (rowSet s)).piecewise f g : sProp 𝕄) from
        (pointsTo_join (ℓ := (c : Thread nD τ).loc cc0_scratch0) hd).trans (Entails.of_eq (by rw [Finset.biUnion_insert])))
      isplitl [Hg] <;> iassumption
  exact (hf Finset.univ).trans (Entails.of_eq (by rw [biUnion_rows]))

theorem scratch_out (c : Dev nD) :
    iprop(bigSep Finset.univ (rowAny c 0) ∗ bigSep Finset.univ (rowAny c 1))
      ⊢ (iprop(∃ f : S2x1024x1024.Idx → Elt F .f32, ((c : Thread nD τ).loc cc0_scratch0) ↦{fullShare} f) : sProp 𝕄) := by
  refine (BIClass.sep_mono (slot_back c 0) (slot_back c 1)).trans ?_
  iintro ⟨⟨%f, Hf⟩, ⟨%g, Hg⟩⟩
  iexists (slotSet 1).piecewise g f
  iapply (show iprop((((c : Thread nD τ).loc cc0_scratch0) ↦[slotSet 0]{fullShare} f) ∗ ((c : Thread nD τ).loc cc0_scratch0) ↦[slotSet 1]{fullShare} g)
      ⊢ (((c : Thread nD τ).loc cc0_scratch0) ↦{fullShare} (slotSet 1).piecewise g f : sProp 𝕄) from
    (pointsTo_join (ℓ := (c : Thread nD τ).loc cc0_scratch0) slots_disjoint).trans
      (Entails.of_eq (congrArg (fun S : Finset S2x1024x1024.Idx => (((c : Thread nD τ).loc cc0_scratch0) ↦[S]{fullShare} (slotSet 1).piecewise g f : sProp 𝕄)) slots_univ)))
  isplitl [Hf] <;> iassumption

/-! ## The read tokens of `x1` -/

def tnE (s : Fin 2) : Fin 1024 ↪ ℕ := ⟨tn s, fun a b h => Fin.ext (by unfold tn at h; omega)⟩

theorem range_tn : Finset.range 2048 = Finset.univ.map (tnE 0) ∪ Finset.univ.map (tnE 1) := by
  refine Finset.ext fun n => ?_
  rw [Finset.mem_range, Finset.mem_union, Finset.mem_map, Finset.mem_map]
  constructor
  · intro h
    by_cases hn : n < 1024
    · exact .inl ⟨⟨n, hn⟩, Finset.mem_univ _, by show 0 * 1024 + n = n; omega⟩
    · exact .inr ⟨⟨n - 1024, by omega⟩, Finset.mem_univ _, by show 1 * 1024 + (n - 1024) = n; omega⟩
  · rintro (⟨r, -, rfl⟩ | ⟨r, -, rfl⟩)
    · show 0 * 1024 + r.val < 2048; omega
    · show 1 * 1024 + r.val < 2048; omega

theorem tn_disjoint : Disjoint (Finset.univ.map (tnE 0)) (Finset.univ.map (tnE 1)) := by
  refine Finset.disjoint_left.mpr fun n h0 h1 => ?_
  obtain ⟨a, -, ha⟩ := Finset.mem_map.mp h0
  obtain ⟨b, -, hb⟩ := Finset.mem_map.mp h1
  have ha : 0 * 1024 + a.val = n := ha
  have hb : 1 * 1024 + b.val = n := hb
  omega

/-- What is left of `x1` beside the 2048 read tokens. -/
def x1Rest (c : Dev nD) (x1 : S32768x1024.Idx → Elt F .f32) : sProp 𝕄 :=
  ((c : Thread nD τ).loc main_arg0) ↦{Transfers.shareDrop fullShare 2048} x1

theorem toks_eq (c : Dev nD) (x1 : S32768x1024.Idx → Elt F .f32) :
    (bigSep (Finset.range 2048) (tok c x1) : sProp 𝕄)
      = iprop(bigSep Finset.univ (fun r => tok c x1 (tn 0 r)) ∗ bigSep Finset.univ (fun r => tok c x1 (tn 1 r))) := by
  rw [range_tn, BI.bigSep_union tn_disjoint, BI.bigSep_map, BI.bigSep_map]
  rfl

theorem x1_toks (c : Dev nD) (x1 : S32768x1024.Idx → Elt F .f32) :
    (((c : Thread nD τ).loc main_arg0) ↦{fullShare} x1 : sProp 𝕄)
      ⊣⊢ iprop(x1Rest c x1 ∗ bigSep Finset.univ (fun r => tok c x1 (tn 0 r)) ∗ bigSep Finset.univ (fun r => tok c x1 (tn 1 r))) := by
  rw [← toks_eq]
  exact Transfers.pointsTo_toks_range fullShare 2048

/-! ## The two slots -/

abbrev sems (c : Dev nD) : sProp 𝕄 :=
  iprop(semVal ((c : Thread nD τ), SemLoc.dma (cellD 0)) 0 ∗ semVal ((c : Thread nD τ), SemLoc.dma (cellD 1)) 0)

theorem slots_in (c : Dev nD) (x1 : S32768x1024.Idx → Elt F .f32) :
    iprop((∃ f : S2x1024x1024.Idx → Elt F .f32, ((c : Thread nD τ).loc cc0_scratch0) ↦{fullShare} f) ∗ (((c : Thread nD τ).loc main_arg0) ↦{fullShare} x1) ∗ sems c)
      ⊢ (iprop(x1Rest c x1 ∗ slotIdle c x1 0 ∗ slotIdle c x1 1) : sProp 𝕄) := by
  iintro ⟨⟨%f, Hf⟩, Hx, Hs0, Hs1⟩
  ihave Hf := (scratch_in c f) $$ Hf
  ihave Hx := (x1_toks c x1).1 $$ Hx
  icases Hf with ⟨H0, H1⟩
  icases Hx with ⟨Hx, Ht0, Ht1⟩
  isplitl [Hx]; · iexact Hx
  unfold slotIdle
  isplitl [H0 Ht0 Hs0]
  · isplitl [H0]; · iexact H0
    isplitl [Ht0] <;> iassumption
  · isplitl [H1]; · iexact H1
    isplitl [Ht1] <;> iassumption

theorem slots_out (c : Dev nD) (x1 : S32768x1024.Idx → Elt F .f32) :
    iprop(x1Rest c x1 ∗ slotIdle c x1 0 ∗ slotIdle c x1 1)
      ⊢ (iprop((∃ f : S2x1024x1024.Idx → Elt F .f32, ((c : Thread nD τ).loc cc0_scratch0) ↦{fullShare} f) ∗ (((c : Thread nD τ).loc main_arg0) ↦{fullShare} x1) ∗ sems c) : sProp 𝕄) := by
  unfold slotIdle
  iintro ⟨Hx, ⟨H0, Ht0, Hs0⟩, ⟨H1, Ht1, Hs1⟩⟩
  isplitl [H0 H1]
  · iapply (scratch_out c)
    isplitl [H0] <;> iassumption
  isplitl [Hx Ht0 Ht1]
  · iapply (x1_toks c x1).2
    isplitl [Hx]; · iexact Hx
    isplitl [Ht0] <;> iassumption
  isplitl [Hs0] <;> iassumption

/-- Before the first point both slots are idle; -/
theorem slotsAt_first (c : Dev nD) (x1 : S32768x1024.Idx → Elt F .f32) (wd : ℕ → Fin 1024 → BitVec 32) (nv : BitVec 32) :
    iprop(slotIdle c x1 0 ∗ slotIdle c x1 1) ⊢ (slotsAt c x1 wd nv 0 : sProp 𝕄) := by
  unfold slotsAt
  rw [slotIf_neg c x1 wd (p := 0 < 0 ∧ Live nv 0) (fun h => absurd h.1 (lt_irrefl 0)), show sl (0 + 1) = 1 from rfl, show sl 0 = 0 from rfl]
  iintro ⟨H0, H1⟩
  isplitl [H1] <;> iassumption

/-- after the last too: no tile past the 71 is in use. -/
theorem slotsAt_last (c : Dev nD) (x1 : S32768x1024.Idx → Elt F .f32) (wd : ℕ → Fin 1024 → BitVec 32) (nv : BitVec 32) (h : nv.toInt ≤ 71) :
    (slotsAt c x1 wd nv 71 : sProp 𝕄) ⊢ iprop(slotIdle c x1 0 ∗ slotIdle c x1 1) := by
  unfold slotsAt
  have hl : ¬ Live nv 71 := fun (hn : ((71 : ℕ) : ℤ) < nv.toInt) => by omega
  rw [slotIf_neg c x1 wd (p := 0 < 71 ∧ Live nv 71) (fun h => hl h.2), show sl (71 + 1) = 0 from rfl, show sl 71 = 1 from rfl]

end Cert.Proof.Experts

end
-- ==== Proof.Experts.Dats.lean ====
/-
  The pipeline's proof data: what the windows hold at every grid point, and that the body keeps it.

  The host operations before the region make the gathered rows' table a matrix and convert the weights. At point `t`
  window 0 holds tile `t`'s row of that table and window 1 the next tile's; windows 2 to 4 hold the weights of the tile's
  expert; the body leaves in window 5 the tile's value (`tileOut`).
-/
module

public import proofs.«01_k».proof.Proof.Experts.Tables
public import proofs.«01_k».proof.Proof.Experts.Ends
public import Idealize.ShloMosaic.Lib.Pipeline.FrameBody

@[expose] public section

noncomputable section

namespace Cert.Proof.Experts

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg) (ok : Routed m)

/-! ## The buffers when the region is entered -/

/-- Core `c`'s buffers at launch; -/
abbrev V₀ (c : Dev nD) : Valuation τ sig (Elt F) := fun b => (s₀ m ρ).mem ((c : Dev nD), b)
/-- and when the region is entered. -/
abbrev V (c : Dev nD) (b : Ref sig .tc) : Buf (Elt F) ((c : Thread nD τ).loc b) := StableHlo.after hostOps0 (V₀ m ρ c) b

/-- The host operations write their results only. -/
theorem not_written (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.reshape_writes, Finset.mem_singleton] <;>
    exact StableHlo.devRef_ne_of_ne ‹_›

theorem V_keeps (c : Dev nD) (b : Ref sig .tc) (hb : b ≠ main_v0 ∧ b ≠ main_v1 ∧ b ≠ main_v2 ∧ b ≠ main_v3) :
    V m ρ c b = m ((c : Thread nD τ).loc b) :=
  StableHlo.after_of_forall_not_mem (b := Proc.devRef .tc b) hostOps0 (V₀ m ρ c) (not_written b hb)

/-- The table of gathered rows is the argument's, one row a tile. -/
theorem V_rows (c : Dev nD) : V m ρ c main_v0 = (shapeCast S71x1x1024 (src0 m c) shapeCasts_S72704_S71x1x1024 : S71x1x1024.Idx → BitVec 32) := by
  rfl

/-- The words of tile `n`. -/
def words (c : Dev nD) (n : ℕ) (r : Fin 1024) : BitVec 32 :=
  if h : n < 71 then (V m ρ c main_v0 : S71x1x1024.Idx → BitVec 32) (ix3 (⟨n, h⟩ : Fin 71) (0 : Fin 1) r) else 0

include ok in
theorem words_lt (c : Dev nD) (n : ℕ) (h : n < 71) (r : Fin 1024) : (words m ρ c n r).toNat < 32768 := by
  unfold words
  rw [dif_pos h, V_rows]
  exact (ok c).src _

/-! ## The proof data -/

/-- The pipeline at the launched tables. -/
abbrev cfgA : Cfg sig Λ₀ := cfg0 (adm m ok 0)

/-- The block of an array that a window's fetch stages. -/
abbrev blkOf (c : Dev nD) (w : Fin (cfgA m ok).W) (t : Fin (cfgA m ok).N) :=
  (((cfgA m ok).win w).blk t).view.read (Elt F) (V m ρ c (Pipeline.arrRef spec0 w))

abbrev nvW (c : Dev nD) : BitVec 32 := nv0 m c (ix1 (0 : Fin 1))
abbrev x1W (c : Dev nD) : S32768x1024.Idx → Elt F .f32 := m ((c : Thread nD τ).loc main_arg0)

/-- Tile `t`'s value. -/
def tileAt (c : Dev nD) (t : Fin (cfgA m ok).N) : S1024x1024.Idx → Elt F .f32 :=
  tileOut (x1W m c) (words m ρ c t.val) (Live (nvW m c) t.val) (blkOf m ρ ok c 2 t) (blkOf m ρ ok c 3 t) (blkOf m ρ ok c 4 t)

/-- What the body keeps between the points: the two tables, what is left of `x1`, the tile's buffer, the slots. -/
def Φc (c : Dev nD) (t : ℕ) : sProp 𝕄 :=
  iprop((((c : Thread nD τ).loc main_arg2) ↦{fullShare} te0 m c) ∗ (((c : Thread nD τ).loc main_arg3) ↦{fullShare} nv0 m c)
    ∗ x1Rest c (x1W m c) ∗ (∃ Xb, pt c (Memref.whole cc0_scratch1) Xb) ∗ slotsAt c (x1W m c) (words m ρ c) (nvW m c) t)

/-- The proof data on core `c`. -/
def dats (_ : Fin 1) (c : Dev nD) : Dat τ (Elt F) Unit ℕ (UU nD τ) ℕ (cfgA m ok) c where
  A w := V m ρ c (Pipeline.arrRef spec0 w)
  after w t := match w with
    | ⟨0, _⟩ => blkOf m ρ ok c 0 t
    | ⟨1, _⟩ => blkOf m ρ ok c 1 t
    | ⟨2, _⟩ => blkOf m ρ ok c 2 t
    | ⟨3, _⟩ => blkOf m ρ ok c 3 t
    | ⟨4, _⟩ => blkOf m ρ ok c 4 t
    | ⟨5, _⟩ => tileAt m ρ ok c t
    | ⟨_ + 6, h⟩ => absurd h (Nat.not_lt.2 (Nat.le_add_left _ _))
  Φ t := Φc m ρ c t.val
  q w := Pipeline.shareOf spec0 w
  owed _ := 0

theorem A_eq (c : Dev nD) (w : Fin (cfgA m ok).W) : (dats m ρ ok 0 c).A w = V m ρ c (Pipeline.arrRef spec0 w) := by
  dsimp only [dats]

theorem before0 (c : Dev nD) (t : Fin (cfgA m ok).N) (d) : (dats m ρ ok 0 c).before 0 t d = blkOf m ρ ok c 0 t :=
  (dats m ρ ok 0 c).before_in_eq_fetched 0 rfl (fun _ => rfl) (fun _ _ _ => rfl) (fun _ => rfl) t d
theorem before1 (c : Dev nD) (t : Fin (cfgA m ok).N) (d) : (dats m ρ ok 0 c).before 1 t d = blkOf m ρ ok c 1 t :=
  (dats m ρ ok 0 c).before_in_eq_fetched 1 rfl (fun _ => rfl) (fun _ _ _ => rfl) (fun _ => rfl) t d
theorem before2 (c : Dev nD) (t : Fin (cfgA m ok).N) (d) : (dats m ρ ok 0 c).before 2 t d = blkOf m ρ ok c 2 t :=
  (dats m ρ ok 0 c).before_in_eq_fetched 2 rfl (fun _ => rfl) (fun _ _ _ => rfl) (fun _ => rfl) t d
theorem before3 (c : Dev nD) (t : Fin (cfgA m ok).N) (d) : (dats m ρ ok 0 c).before 3 t d = blkOf m ρ ok c 3 t :=
  (dats m ρ ok 0 c).before_in_eq_fetched 3 rfl (fun _ => rfl) (fun _ _ _ => rfl) (fun _ => rfl) t d
theorem before4 (c : Dev nD) (t : Fin (cfgA m ok).N) (d) : (dats m ρ ok 0 c).before 4 t d = blkOf m ρ ok c 4 t :=
  (dats m ρ ok 0 c).before_in_eq_fetched 4 rfl (fun _ => rfl) (fun _ _ _ => rfl) (fun _ => rfl) t d

/-! ## The grid's points -/

theorem coords_val (t : Fin grid0.N) : (grid0.coords t 0).val = t.val := by
  revert t; decide

theorem index0_val (t : Fin grid0.N) : cc0_transform_0 (grid0.coords t) = ![t.val, 0, 0] := by
  revert t; decide

theorem index1_val (t : Fin grid0.N) : cc0_transform_1 (grid0.coords t) = ![min (t.val + 1) 70, 0, 0] := by
  revert t; decide

theorem stored (i : grid0.Coords) (v : BitVec 32) : (!(k0_cond3 i v == 1#1) && !(k0_cond4 i v == 1#1)) = false := by
  by_cases h : ((i 0).val : ℤ) < v.toInt
  · rw [(cond3_iff i v).mpr h]; rfl
  · rw [(cond4_iff i v).mpr h]; exact Bool.and_false _

/-- The output window is stored at every point. -/
theorem not_idle (t : Fin (cfgA m ok).N) : (cfgA m ok).idle 5 ((cfgA m ok).grid.coords t) = false := stored _ _

/-- Window 0 holds the tile's row of the table. -/
theorem word0 (c : Dev nD) (t : Fin (cfgA m ok).N) (r : Fin 1024) :
    blkOf m ρ ok c 0 t (ix3 (0 : Fin 1) (0 : Fin 1) r) = words m ρ c t.val r := by
  have ht : t.val < 71 := t.isLt
  unfold words
  rw [dif_pos ht]
  refine congrArg (V m ρ c main_v0 : S71x1x1024.Idx → BitVec 32) (funext fun a => Fin.ext ?_)
  refine (Pipeline.Window.rect_emb_val ((cfgA m ok).win 0) t _ a).trans ?_
  have hi : ((cfgA m ok).win 0).index t = ![t.val, 0, 0] := index0_val t
  rw [hi]
  fin_cases a
  · show t.val * 1 + 0 = t.val; omega
  · rfl
  · show 0 * 1024 + r.val = r.val; omega

/-- Window 1 the next tile's. -/
theorem word1 (c : Dev nD) (t : Fin (cfgA m ok).N) (h : t.val + 1 < 71) (r : Fin 1024) :
    blkOf m ρ ok c 1 t (ix3 (0 : Fin 1) (0 : Fin 1) r) = words m ρ c (t.val + 1) r := by
  unfold words
  rw [dif_pos h]
  refine congrArg (V m ρ c main_v0 : S71x1x1024.Idx → BitVec 32) (funext fun a => Fin.ext ?_)
  refine (Pipeline.Window.rect_emb_val ((cfgA m ok).win 1) t _ a).trans ?_
  have hi : ((cfgA m ok).win 1).index t = ![min (t.val + 1) 70, 0, 0] := index1_val t
  rw [hi]
  fin_cases a
  · show min (t.val + 1) 70 * 1 + 0 = t.val + 1; omega
  · rfl
  · show 0 * 1024 + r.val = r.val; omega

/-! ## The body -/

theorem owns_pt {sp : Space} {shape : Shape} {e : EltTy} (c : Dev nD) (M : Memref sig .tc sp shape e) (h : M.IsWhole) (X : shape.Idx → Elt F e) :
    (owns (c : Thread nD τ) M fullShare X : sProp 𝕄) ⊣⊢ iprop(∃ f, ⌜M.view.read (Elt F) f = X⌝ ∗ pt c M f) := by
  unfold owns
  rw [h.set_eq_univ]

/-- What the windows' buffers hold around the body at point `t`, windows 0 to 4; -/
def held (c : Dev nD) (t : Fin (cfgA m ok).N) : sProp 𝕄 :=
  iprop(owns (c : Thread nD τ) (spec0_0.stage ((cfgA m ok).slots t 0)) fullShare (blkOf m ρ ok c 0 t)
    ∗ owns (c : Thread nD τ) (spec0_1.stage ((cfgA m ok).slots t 1)) fullShare (blkOf m ρ ok c 1 t)
    ∗ owns (c : Thread nD τ) (spec0_2.stage ((cfgA m ok).slots t 2)) fullShare (blkOf m ρ ok c 2 t)
    ∗ owns (c : Thread nD τ) (spec0_3.stage ((cfgA m ok).slots t 3)) fullShare (blkOf m ρ ok c 3 t)
    ∗ owns (c : Thread nD τ) (spec0_4.stage ((cfgA m ok).slots t 4)) fullShare (blkOf m ρ ok c 4 t))

/-- The body at point `t`, its postcondition to be met by what it leaves. -/
theorem body_at (c : Dev nD) (t : Fin (cfgA m ok).N) (Q : PUnit → sProp 𝕄) :
    iprop(Φc m ρ c t.val ∗ (∃ W, owes (c : Thread nD τ) 0 W) ∗ held m ρ ok c t
        ∗ (∃ X, owns (c : Thread nD τ) (spec0_5.stage ((cfgA m ok).slots t 5)) fullShare X)
        ∗ ((Φc m ρ c (t.val + 1) ∗ (∃ W, owes (c : Thread nD τ) 0 W) ∗ held m ρ ok c t
          ∗ owns (c : Thread nD τ) (spec0_5.stage ((cfgA m ok).slots t 5)) fullShare (tileAt m ρ ok c t)) -∗ Q ⟨⟩))
      ⊢ wp frame (wpE (defs₀ (F := F)) 𝒱₀ (c : Thread nD τ) none) Set.univ
        (defs₀ .tc (cfgA m ok).body ((cfgA m ok).bodyArgs t ((cfgA m ok).slots t))) Q := by
  unfold Φc held
  have hc : (grid0.coords t 0).val = t.val := coords_val t
  iintro ⟨⟨Hte, Hnv, Hx, Hb, Hs⟩, ⟨%W, HO⟩, ⟨H0, H1, H2, H3, H4⟩, ⟨%d5, H5⟩, HQ⟩
  ihave H0 := (owns_pt c (spec0_0.stage ((cfgA m ok).slots t 0)) (hstage0_0 _) (blkOf m ρ ok c 0 t)).1 $$ H0
  ihave H1 := (owns_pt c (spec0_1.stage ((cfgA m ok).slots t 1)) (hstage0_1 _) (blkOf m ρ ok c 1 t)).1 $$ H1
  ihave H2 := (owns_pt c (spec0_2.stage ((cfgA m ok).slots t 2)) (hstage0_2 _) (blkOf m ρ ok c 2 t)).1 $$ H2
  ihave H3 := (owns_pt c (spec0_3.stage ((cfgA m ok).slots t 3)) (hstage0_3 _) (blkOf m ρ ok c 3 t)).1 $$ H3
  ihave H4 := (owns_pt c (spec0_4.stage ((cfgA m ok).slots t 4)) (hstage0_4 _) (blkOf m ρ ok c 4 t)).1 $$ H4
  ihave H5 := (owns_pt c (spec0_5.stage ((cfgA m ok).slots t 5)) (hstage0_5 _) d5).1 $$ H5
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  iapply (point c (grid0.coords t) (spec0_0.stage ((cfgA m ok).slots t 0)) (hstage0_0 _) (spec0_1.stage ((cfgA m ok).slots t 1)) (hstage0_1 _)
    (spec0_2.stage ((cfgA m ok).slots t 2)) (hstage0_2 _) (spec0_3.stage ((cfgA m ok).slots t 3)) (hstage0_3 _) (spec0_4.stage ((cfgA m ok).slots t 4)) (hstage0_4 _)
    (spec0_5.stage ((cfgA m ok).slots t 5)) (hstage0_5 _) (x1W m c) (words m ρ c) f0 f1 Q (nv0 m c)
    (words_lt m ρ ok c) ?_ ?_ (ok c).used f2 f3 f4 f5)
  · rw [hc]
    exact funext fun r => (congrFun hf0 _).trans (word0 m ρ ok c t r)
  · rw [hc]
    exact fun h => funext fun r => (congrFun hf1 _).trans (word1 m ρ ok c t h r)
  rw [hc]
  isplitl [Hnv]; · iexact Hnv
  isplitl [H0]; · iexact H0
  isplitl [H1]; · iexact H1
  isplitl [HO]; · iexists W; iexact HO
  isplitl [Hb]; · iexact Hb
  isplitl [H2]; · iexact H2
  isplitl [H3]; · iexact H3
  isplitl [H4]; · iexact H4
  isplitl [H5]; · iexact H5
  isplitl [Hs]; · iexact Hs
  iintro ⟨Hnv, H0, H1, HO, Hb, H2, H3, H4, ⟨%f, %hf, H5⟩, Hs⟩
  iapply HQ
  isplitl [Hte Hnv Hx Hb Hs]
  · isplitl [Hte]; · iexact Hte
    isplitl [Hnv]; · iexact Hnv
    isplitl [Hx]; · iexact Hx
    isplitl [Hb]; · iexact Hb
    iexact Hs
  isplitl [HO]; · iexact HO
  isplitl [H0 H1 H2 H3 H4]
  · isplitl [H0]
    · iapply (owns_pt c (spec0_0.stage ((cfgA m ok).slots t 0)) (hstage0_0 _) (blkOf m ρ ok c 0 t)).2
      iexists f0; isplitr; · ipureintro; exact hf0
      iexact H0
    isplitl [H1]
    · iapply (owns_pt c (spec0_1.stage ((cfgA m ok).slots t 1)) (hstage0_1 _) (blkOf m ρ ok c 1 t)).2
      iexists f1; isplitr; · ipureintro; exact hf1
      iexact H1
    isplitl [H2]
    · iapply (owns_pt c (spec0_2.stage ((cfgA m ok).slots t 2)) (hstage0_2 _) (blkOf m ρ ok c 2 t)).2
      iexists f2; isplitr; · ipureintro; exact hf2
      iexact H2
    isplitl [H3]
    · iapply (owns_pt c (spec0_3.stage ((cfgA m ok).slots t 3)) (hstage0_3 _) (blkOf m ρ ok c 3 t)).2
      iexists f3; isplitr; · ipureintro; exact hf3
      iexact H3
    · iapply (owns_pt c (spec0_4.stage ((cfgA m ok).slots t 4)) (hstage0_4 _) (blkOf m ρ ok c 4 t)).2
      iexists f4; isplitr; · ipureintro; exact hf4
      iexact H4
  iapply (owns_pt c (spec0_5.stage ((cfgA m ok).slots t 5)) (hstage0_5 _) (tileAt m ρ ok c t)).2
  iexists f; isplitr
  · ipureintro
    refine hf.trans ?_
    rw [hf2, hf3, hf4]
    rfl
  iexact H5

/-- The same around what the library hands the body. -/
theorem body_around (c : Dev nD) (t : Fin (cfgA m ok).N) :
    iprop(Φc m ρ c t.val ∗ (∃ W : Waits sig Unit, ⌜(↑W : Set (SemLoc sig × Unit)) ⊆ (dats m ρ ok 0 c).bound () t.castSucc⌝ ∗ owes (c : Thread nD τ) 0 W)
        ∗ (∃ d, owns (c : Thread nD τ) (spec0_0.stage ((cfgA m ok).slots t 0)) fullShare ((dats m ρ ok 0 c).before 0 t d))
        ∗ (∃ d, owns (c : Thread nD τ) (spec0_1.stage ((cfgA m ok).slots t 1)) fullShare ((dats m ρ ok 0 c).before 1 t d))
        ∗ (∃ d, owns (c : Thread nD τ) (spec0_2.stage ((cfgA m ok).slots t 2)) fullShare ((dats m ρ ok 0 c).before 2 t d))
        ∗ (∃ d, owns (c : Thread nD τ) (spec0_3.stage ((cfgA m ok).slots t 3)) fullShare ((dats m ρ ok 0 c).before 3 t d))
        ∗ (∃ d, owns (c : Thread nD τ) (spec0_4.stage ((cfgA m ok).slots t 4)) fullShare ((dats m ρ ok 0 c).before 4 t d))
        ∗ (∃ d, owns (c : Thread nD τ) (spec0_5.stage ((cfgA m ok).slots t 5)) fullShare ((dats m ρ ok 0 c).before 5 t d)))
      ⊢ wp frame (wpE (defs₀ (F := F)) 𝒱₀ (c : Thread nD τ) none) Set.univ
        (defs₀ .tc (cfgA m ok).body ((cfgA m ok).bodyArgs t ((cfgA m ok).slots t))) fun _ =>
        iprop(Φc m ρ c (t.val + 1) ∗ (∃ W : Waits sig Unit, ⌜(↑W : Set (SemLoc sig × Unit)) ⊆ (dats m ρ ok 0 c).bound () t.succ⌝ ∗ owes (c : Thread nD τ) 0 W)
          ∗ owns (c : Thread nD τ) (spec0_0.stage ((cfgA m ok).slots t 0)) fullShare (blkOf m ρ ok c 0 t)
          ∗ owns (c : Thread nD τ) (spec0_1.stage ((cfgA m ok).slots t 1)) fullShare (blkOf m ρ ok c 1 t)
          ∗ owns (c : Thread nD τ) (spec0_2.stage ((cfgA m ok).slots t 2)) fullShare (blkOf m ρ ok c 2 t)
          ∗ owns (c : Thread nD τ) (spec0_3.stage ((cfgA m ok).slots t 3)) fullShare (blkOf m ρ ok c 3 t)
          ∗ owns (c : Thread nD τ) (spec0_4.stage ((cfgA m ok).slots t 4)) fullShare (blkOf m ρ ok c 4 t)
          ∗ owns (c : Thread nD τ) (spec0_5.stage ((cfgA m ok).slots t 5)) fullShare (tileAt m ρ ok c t)) := by
  iintro ⟨HΦ, ⟨%W, -, HO⟩, ⟨%d0, H0⟩, ⟨%d1, H1⟩, ⟨%d2, H2⟩, ⟨%d3, H3⟩, ⟨%d4, H4⟩, ⟨%d5, H5⟩⟩
  rw [before0, before1, before2, before3, before4]
  iapply (body_at m ρ ok c t _)
  isplitl [HΦ]; · iexact HΦ
  isplitl [HO]; · iexists W; iexact HO
  unfold held
  isplitl [H0 H1 H2 H3 H4]
  · isplitl [H0]; · iexact H0
    isplitl [H1]; · iexact H1
    isplitl [H2]; · iexact H2
    isplitl [H3]; · iexact H3
    iexact H4
  isplitl [H5]; · iexists _; iexact H5
  iintro ⟨HΦ, ⟨%W', HO⟩, ⟨H0, H1, H2, H3, H4⟩, H5⟩
  isplitl [HΦ]; · iexact HΦ
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

/-- The library's body obligation. -/
theorem body_obligation (c : Dev nD) : BodyObligation (dats m ρ ok 0 c) (defs₀ (F := F)) 𝒱₀ () Set.univ := fun t => by
  rw [bigSep_W0, bigSep_W0, not_idle]
  exact body_around m ρ ok c t

end Cert.Proof.Experts

end
-- ==== Proof.Experts.Launch.lean ====
/-
  The launch of the routed experts call: @main is four host operations and one region.

  `run_main` is the run, for any float values: from a memory whose tables the precondition admits, with every semaphore
  counter at zero, every weakly fair execution of @main ends, and at the end the result is what the pipeline's proof data
  compute, every argument is as it was and every counter is zero.
-/
module

public import proofs.«01_k».proof.Proof.Experts.Dats
public import Idealize.ShloMosaic.Lib.Pipeline.Regions

@[expose] public section

noncomputable section

namespace Cert.Proof.Experts

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component. -/
abbrev EP : Emb (UR sig nD τ) (MT nD τ sig Unit (Elt F) ℕ (UU nD τ) ℕ) := embL

variable (m : (ℓ : Loc nD τ sig) → Buf (Elt F) ℓ) (ρ : Dev nD → PrngReg) (ok : Routed m)

/-! ## The unscoped buffers -/

/-- The unscoped buffers, as device buffers: the set the host operations run within. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The host operations leave every argument as it was. -/
theorem V_arg0 (c : Dev nD) : V m ρ c main_arg0 = m ((c : Thread nD τ).loc main_arg0) := V_keeps m ρ c main_arg0 (by decide)
theorem V_arg1 (c : Dev nD) : V m ρ c main_arg1 = m ((c : Thread nD τ).loc main_arg1) := V_keeps m ρ c main_arg1 (by decide)
theorem V_arg2 (c : Dev nD) : V m ρ c main_arg2 = te0 m c := V_keeps m ρ c main_arg2 (by decide)
theorem V_arg3 (c : Dev nD) : V m ρ c main_arg3 = nv0 m c := V_keeps m ρ c main_arg3 (by decide)
theorem V_arg4 (c : Dev nD) : V m ρ c main_arg4 = m ((c : Thread nD τ).loc main_arg4) := V_keeps m ρ c main_arg4 (by decide)
theorem V_arg5 (c : Dev nD) : V m ρ c main_arg5 = m ((c : Thread nD τ).loc main_arg5) := V_keeps m ρ c main_arg5 (by decide)
theorem V_arg6 (c : Dev nD) : V m ρ c main_arg6 = m ((c : Thread nD τ).loc main_arg6) := V_keeps m ρ c main_arg6 (by decide)

/-- The kernel's own semaphores: the slots'. -/
abbrev osem : Fin 2 → SemLoc sig := fun s => .dma (cellD s)

theorem ownSemFacts : Pipeline.OwnSemFacts spec0 osem := by decide

omit [FloatOps F] in
theorem ownSems0_eq (c : Dev nD) :
    (Pipeline.ownSems0 (Ix := Unit) (Name := ℕ) (U := UU nD τ) (Lvl := ℕ) (Val := Elt F) (τ := τ) osem c : sProp 𝕄) = sems c :=
  Pipeline.ownSems0_eq_of_list c osem [0, 1] (by decide) (by decide)

/-- The launch element. -/
def u₀ : UU nD τ := (initOf (Pipeline.cells (Pipeline.pin (pcfgs (F := F)) (adm m ok)) (cellOf_inj (adm m ok))) (Pipeline.launchToks (Pipeline.pin (pcfgs (F := F)) (adm m ok)) (cellOf_inj (adm m ok))), 1)

abbrev L : GSem nD τ sig → Finset Unit := fun _ => ∅
abbrev lv : GSem nD τ sig → Unit → ℕ := fun _ _ => 0
abbrev R (c : Dev nD) : sProp 𝕄 := iprop(∃ W, owes (c : Thread nD τ) (0 : CellTallies nD τ sig Unit) W)

/-! ## The segments -/

/-- The host operations. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- The prefetched tables as held; -/
theorem prefHeld_eq (c : Dev nD) (W : pre0.Contents (Elt F)) :
    (Pipeline.prefHeld (Ix := Unit) (Name := ℕ) (U := UU nD τ) (Lvl := ℕ) (τ := τ) pre0 c (fun _ => fullShare) W : sProp 𝕄)
      = iprop((((c : Thread nD τ).loc main_arg2) ↦{fullShare} W 0) ∗ (((c : Thread nD τ).loc main_arg3) ↦{fullShare} W 1)) := by
  unfold Pipeline.prefHeld
  exact bigSep_univ_eq_bigSepL [(0 : Fin 2), (1 : Fin 2)] (by decide) (by decide) _

/-- the arguments no window reads and no table holds. -/
def others (c : Dev nD) : sProp 𝕄 :=
  iprop((((c : Thread nD τ).loc main_arg1) ↦{fullShare} m ((c : Thread nD τ).loc main_arg1)) ∗ (((c : Thread nD τ).loc main_arg4) ↦{fullShare} m ((c : Thread nD τ).loc main_arg4))
    ∗ (((c : Thread nD τ).loc main_arg5) ↦{fullShare} m ((c : Thread nD τ).loc main_arg5)) ∗ (((c : Thread nD τ).loc main_arg6) ↦{fullShare} m ((c : Thread nD τ).loc main_arg6)))

/-- What the body reads beside its windows. -/
def inputs (c : Dev nD) : sProp 𝕄 :=
  iprop((((c : Thread nD τ).loc main_arg0) ↦{fullShare} x1W m c) ∗ (((c : Thread nD τ).loc main_arg2) ↦{fullShare} te0 m c) ∗ (((c : Thread nD τ).loc main_arg3) ↦{fullShare} nv0 m c))

/-- What the region leaves for the end. -/
abbrev Tₙ (c : Dev nD) : sProp 𝕄 :=
  iprop((dats m ρ ok 0 c).arrays ((dats m ρ ok 0 c).arrAt · (cfgA m ok).N) ∗ inputs m c ∗ others m c)

/-- The unscoped buffers at the region's entry: the arrays, the tables, `x1` and the others. -/
theorem entry_split (c : Dev nD) :
    (unscopedBufs c (V m ρ c) : sProp 𝕄) ⊢ iprop((dats m ρ ok 0 c).arrays ((dats m ρ ok 0 c).arrAt · 0)
      ∗ Pipeline.prefHeld pre0 c (fun _ => fullShare) (pfN (te0 m 0) (nv0 m 0)) ∗ (((c : Thread nD τ).loc main_arg0) ↦{fullShare} x1W m c) ∗ others m c) := by
  obtain rfl : c = 0 := Subsingleton.elim _ _
  have hs := Pipeline.arrays_of_unscopedBufs_shared (pcfgs (F := F)) (adm m ok) (dats m ρ ok) (p := 0) winFacts₀0 sharedIn0 arr_whole0 (0 : Dev nD)
    (fun _ _ => rfl) (V m ρ 0) (A_eq m ρ ok 0)
  refine hs.trans ?_
  rw [Pipeline.unscopedRest_split preFacts0, unscopedRestP0_eq, prefHeld_eq, prefHeld_eq]
  unfold others
  rw [V_arg0, V_arg1, V_arg4, V_arg5, V_arg6]
  rw [show V m ρ 0 (pre0.ref 0) = te0 m 0 from V_arg2 m ρ 0, show V m ρ 0 (pre0.ref 1) = nv0 m 0 from V_arg3 m ρ 0]
  iintro ⟨Ha, ⟨H2, H3⟩, H0, Hr⟩
  isplitl [Ha]; · iexact Ha
  isplitl [H2 H3]
  · isplitl [H2]; · iexact H2
    iexact H3
  isplitl [H0]; · iexact H0
  iexact Hr

-- the region's layout facts unify with the pinned configuration only when plain definitions in a type may be unfolded
set_option backward.isDefEq.respectTransparency.types false in
/-- The region. -/
def reg0 : Pipeline.RegionSeg (pcfgs (F := F)) (adm m ok) (dats m ρ ok) () defs₀ 𝒱₀ L lv 0 where
  win := winFacts₀0
  block_pos := block_pos0
  stage_whole := stage_whole0
  K := Fin 2
  osem := osem
  ho := ownSemFacts
  hbody c := (body_obligation m ρ ok c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ ok c ∗ R c)
  X c := iprop((((c : Thread nD τ).loc main_arg0) ↦{fullShare} x1W m c) ∗ sems c)
  Y c := inputs m c
  Z c := others m c
  hentry c := by
    rw [show StableHlo.held (c : Thread nD τ) ucRefs (StableHlo.after hostOps0 (V₀ m ρ c)) = unscopedBufs c (V m ρ c) from (unscopedBufs_held c _).symm,
      ownSems0_eq]
    iintro ⟨⟨Hub, HO⟩, Hos, -⟩
    ihave H := (entry_split m ρ ok c) $$ Hub
    icases H with ⟨Ha, Hp, Hx, Hr⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [Hx Hos]
    · isplitl [Hx]; · iexact Hx
      iexact Hos
    iexact Hr
  hin c := by
    obtain rfl : c = 0 := Subsingleton.elim _ _
    rw [show (dats m ρ ok 0 0).Φ 0 = Φc m ρ 0 0 from rfl]; unfold Φc
    rw [scopedRest0_eq]
    refine (BIClass.sep_mono .rfl (BIClass.sep_mono (Entails.of_eq (prefHeld_eq 0 _)) .rfl)).trans ?_
    iintro ⟨⟨Hx, Hos⟩, ⟨H2, H3⟩, ⟨Hs0, Hs1⟩⟩
    ihave H := (slots_in (0 : Dev nD) (x1W m 0)) $$ [Hx Hos Hs0]
    · isplitl [Hs0]; · iexact Hs0
      isplitl [Hx]; · iexact Hx
      iexact Hos
    icases H with ⟨Hx, Hs⟩
    isplitl [H2]; · iexact H2
    isplitl [H3]; · iexact H3
    isplitl [Hx]; · iexact Hx
    isplitl [Hs1]; · iexact Hs1
    iapply (slotsAt_first (0 : Dev nD) (x1W m 0) (words m ρ 0) (nvW m 0))
    iexact Hs
  hout c := by
    rw [ownSems0_eq, show (dats m ρ ok 0 c).Φ (Fin.last (cfgA m ok).N) = Φc m ρ c 71 from rfl]; unfold Φc
    rw [scopedRest0_eq]
    unfold inputs
    iintro ⟨H2, H3, Hx, Hb, Hs⟩
    ihave Hs := (slotsAt_last c (x1W m c) (words m ρ c) (nvW m c) (ok c).used) $$ Hs
    ihave H := (slots_out c (x1W m c)) $$ [Hx Hs]
    · isplitl [Hx]; · iexact Hx
      iexact Hs
    icases H with ⟨Hs0, Hx, Hos⟩
    isplitl [Hx H2 H3]
    · isplitl [Hx]; · iexact Hx
      isplitl [H2] <;> iassumption
    isplitl [Hos]; · iexact Hos
    isplitl [Hs0] <;> iassumption
  hexit c := by
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-- @main as the list of the two. -/
abbrev segs : List (Pipeline.Seg (pcfgs (F := F)) (adm m ok) (dats m ρ ok) () defs₀ 𝒱₀ L lv) := [.host (seg0 m ρ), .region (reg0 m ρ ok)]

/-! ## The run -/

/-- The result, as the pipeline's proof data compute it. -/
def result (c : Dev nD) : S72704x1024.Idx → Elt F .f32 := (dats m ρ ok 0 c).arrAt 5 (cfgA m ok).N

/-- The end: the result computed and every argument as it was. -/
def QC (c : Dev nD) (s : MemSt nD τ sig (Elt F)) : Prop :=
  s.mem ((c : Thread nD τ).loc main_v4) = result m ρ ok c
    ∧ s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4) ∧ s.mem ((c : Thread nD τ).loc main_arg5) = m ((c : Thread nD τ).loc main_arg5)
    ∧ s.mem ((c : Thread nD τ).loc main_arg6) = m ((c : Thread nD τ).loc main_arg6)

/-- The result's array, out of the windows' arrays. -/
theorem result_held (c : Dev nD) :
    ((dats m ρ ok 0 c).arrays ((dats m ρ ok 0 c).arrAt · (cfgA m ok).N) : sProp 𝕄) ⊢ (((c : Thread nD τ).loc main_v4) ↦{fullShare} result m ρ ok c) := by
  unfold Dat.arrays
  rw [bigSep_W0]
  have e : (Memref.whole main_v4).view.set = Finset.univ := (arr_whole0 5).set_eq_univ
  iintro ⟨-, -, -, -, -, H⟩
  iapply (show iprop((((cfgA m ok).win 5).arr.view.loc (c : Thread nD τ)) ↦[((cfgA m ok).win 5).arr.view.set]{(dats m ρ ok 0 c).share 5} (dats m ρ ok 0 c).arrAt 5 (cfgA m ok).N)
      ⊢ (((c : Thread nD τ).loc main_v4) ↦{fullShare} result m ρ ok c : sProp 𝕄) from
    Entails.of_eq (congrArg (fun S : Finset S72704x1024.Idx => (((c : Thread nD τ).loc main_v4) ↦[S]{fullShare} result m ρ ok c : sProp 𝕄)) e))
  iexact H

-- the run's implicit arguments are found by unifying with this statement only when plain definitions in a type may be unfolded
set_option backward.isDefEq.respectTransparency.types false in
theorem run_main : θ_run defs (onTc (τ := τ) (main (F := F))) (s₀ m ρ) (fun r => (∀ c, QC m ρ ok c r.2) ∧ r.2.sem = fun _ => 0) :=
  Pipeline.θ_run_regions_kit_sems (pcfgs (F := F)) (adm m ok) (dats m ρ ok) () (cellOf_inj (adm m ok)) EP defs₀ 𝒱₀ L lv m ρ main (segs m ρ ok)
    (fun c Q => by rw [main_segs (adm m ok) (dats m ρ ok) () 𝒱₀ L lv (seg0 m ρ) (reg0 m ρ ok) rfl c])
    (by simp only [Pipeline.Seg.pipes_host, Pipeline.Seg.pipes_region, Pipeline.Seg.pipes_nil]; decide) (O₀ := 0) (hL := fun _ _ => rfl) (G := fun _ => iprop(emp)) (u₀ := u₀ m ok)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ ok)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => QC m ρ ok c s)
    (hfin := fun c s' => by
      dsimp only [Tₙ]; unfold inputs others
      iintro ⟨⟨Ha, ⟨H0, H2, H3⟩, ⟨H1, H4, H5, H6⟩⟩, HSI⟩
      ihave Hv := (result_held m ρ ok c) $$ Ha
      icombine HSI Hv gives %hv
      icombine HSI H0 gives %h0
      icombine HSI H1 gives %h1
      icombine HSI H2 gives %h2
      icombine HSI H3 gives %h3
      icombine HSI H4 gives %h4
      icombine HSI H5 gives %h5
      icombine HSI H6 gives %h6
      imodintro
      isplitr
      · ipureintro
        exact ⟨Buf.eq_of_forall_mem_univ hv, Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩
      iexact HSI)
    (hQ := fun _ h hz => ⟨h, funext fun g => hz g (.inr (by revert g; decide))⟩)

end Cert.Proof.Experts

end
-- ==== Proof.Experts.Spec.lean ====
/-
  The mathematics of the routed experts, over the extended reals: an expert's SwiGLU of one row, and the result row by
  row. `swiglu_chunks` is the kernel's order of the sum over the 3584 hidden units: fourteen chunks of 256.
-/
module

public import Idealize.ShloMosaic.PureOps.Ideal.Laws
public import Idealize.ShloMosaic.Lib.ValueIdx

@[expose] public section

noncomputable section

namespace Cert.Proof.Experts

open Idealize.ShloMosaic Idealize.ShloMosaic.ValueIdx
open scoped BigOperators

/-- `z / (1 + e⁻ᶻ)`, its one the programs' literal. -/
def silu (z : EReal) : EReal := z * Ideal.div (Ideal.ofBits .f32 0x3F800000#32) (Ideal.ofBits .f32 0x3F800000#32 + Ideal.exp (-z))

/-- One hidden unit of a row `x`: its gate's `silu` times its second product. -/
def hidden (x g u : Fin 1024 → EReal) : EReal := silu (∑ k, x k * g k) * ∑ k, x k * u k

/-- An expert's output on a row, at column `j`. -/
def swiglu (x : Fin 1024 → EReal) (g u : Fin 1024 → Fin 3584 → EReal) (d : Fin 3584 → Fin 1024 → EReal) (j : Fin 1024) : EReal :=
  ∑ f, hidden x (fun k => g k f) (fun k => u k f) * d f j

/-- Hidden unit `y` of chunk `k`. -/
def unitAt (k : Fin 14) (y : Fin 256) : Fin 3584 := ⟨256 * k.val + y.val, by omega⟩

/-- A sum over units as chunks of 256. -/
theorem sum_units {n N : ℕ} (h : N = n * 256) (φ : Fin N → EReal) :
    ∑ f, φ f = ∑ k : Fin n, ∑ y : Fin 256, φ ⟨256 * k.val + y.val, by omega⟩ := by
  subst h
  refine Eq.trans ?_ (Fintype.sum_prod_type' fun (k : Fin n) (y : Fin 256) => φ ⟨256 * k.val + y.val, by omega⟩)
  exact (Equiv.sum_comp finProdFinEquiv φ).symm.trans (Finset.sum_congr rfl fun p _ => congrArg φ (Fin.ext (by
    show p.2.val + 256 * p.1.val = 256 * p.1.val + p.2.val; omega)))

theorem swiglu_chunks (x : Fin 1024 → EReal) (g u : Fin 1024 → Fin 3584 → EReal) (d : Fin 3584 → Fin 1024 → EReal) (j : Fin 1024) :
    swiglu x g u d j = ∑ k : Fin 14, ∑ y : Fin 256,
      hidden x (fun c => g c (unitAt k y)) (fun c => u c (unitAt k y)) * d (unitAt k y) j :=
  sum_units (n := 14) rfl _

/-- The result at row `r` of tile `n`, column `j`: the SwiGLU, under the tile's expert, of the row of `x1` it gathers; zero
    where the tile is not in use. -/
def routedOut (x1 : (⟨2, ![32768, 1024]⟩ : Shape).Idx → EReal) (src : (⟨1, ![72704]⟩ : Shape).Idx → BitVec 32)
    (te : (⟨1, ![71]⟩ : Shape).Idx → BitVec 32) (nv : (⟨1, ![1]⟩ : Shape).Idx → BitVec 32)
    (g u : (⟨3, ![8, 1024, 3584]⟩ : Shape).Idx → EReal) (d : (⟨3, ![8, 3584, 1024]⟩ : Shape).Idx → EReal)
    (i : (⟨2, ![72704, 1024]⟩ : Shape).Idx) : EReal :=
  if (((i 0).val / 1024 : ℕ) : ℤ) < (nv (ix1 (0 : Fin 1))).toInt then
    swiglu (fun k => x1 (ix2 (⟨(src (ix1 (i 0))).toNat % 32768, Nat.mod_lt _ (by decide)⟩ : Fin 32768) k))
      (fun k f => g (ix3 (⟨(te (ix1 (⟨(i 0).val / 1024, by have := (i 0).isLt; change (i 0).val < 72704 at this; omega⟩ : Fin 71))).toNat % 8, Nat.mod_lt _ (by decide)⟩ : Fin 8) k f))
      (fun k f => u (ix3 (⟨(te (ix1 (⟨(i 0).val / 1024, by have := (i 0).isLt; change (i 0).val < 72704 at this; omega⟩ : Fin 71))).toNat % 8, Nat.mod_lt _ (by decide)⟩ : Fin 8) k f))
      (fun f j => d (ix3 (⟨(te (ix1 (⟨(i 0).val / 1024, by have := (i 0).isLt; change (i 0).val < 72704 at this; omega⟩ : Fin 71))).toNat % 8, Nat.mod_lt _ (by decide)⟩ : Fin 8) f j))
      (i 1)
  else 0

end Cert.Proof.Experts

end
-- ==== Proof.Experts.ChunkValue.lean ====
/-
  What the body computes of a tile, over the extended reals: a chunk is its part of the sum over the hidden units, and
  the fourteen chunks the whole of it (`moeOut_apply`).
-/
module

public import proofs.«01_k».proof.Proof.Experts.Spec
public import proofs.«01_k».proof.Proof.Experts.Compute
public import Idealize.ShloMosaic.Lib.MatmulPlain

@[expose] public section

noncomputable section

namespace Cert.Proof.Experts

open Cert.KernelIdeal Cert.KernelIdeal.Gen

open Idealize.ShloMosaic Idealize.ShloMosaic.TcCoe Idealize.ShloMosaic.ValueIdx
open scoped BigOperators

theorem drop_one {α : Type} {a b : ℕ} (v : (⟨3, ![1, a, b]⟩ : Shape).Idx → α) (h : (⟨3, ![1, a, b]⟩ : Shape).ShapeCasts ⟨2, ![a, b]⟩)
    (p : Fin a) (q : Fin b) : shapeCast ⟨2, ![a, b]⟩ v h (ix2 p q) = v (ix3 (0 : Fin 1) p q) :=
  congrArg v (reshapeEquiv_ix2_1ab _ p q)

/-- A product into the zero splat. -/
theorem product {M K N : ℕ} (lhs : FVec Ideal ⟨2, ![M, K]⟩ .bf16) (rhs : FVec Ideal ⟨2, ![K, N]⟩ .bf16) (r : Fin M) (c : Fin N) :
    matmul (DotDims.plain M K N) none lhs rhs (constant ⟨2, ![M, N]⟩ .f32 0x00000000#32) (ix2 r c)
      = ∑ k : Fin K, (lhs (ix2 r k) : EReal) * rhs (ix2 k c) := by
  refine (Ideal.matmul_plain_apply none lhs rhs _ r c).trans ?_
  show Ideal.ofBits .f32 0x00000000#32 + _ = _
  rw [Ideal.ofBits_zero_f32, zero_add]

theorem gateProduct (X : Vec Ideal S1024x1024 .bf16) (g : Vec Ideal S1x1024x256 .bf16) (r : Fin 1024) (y : Fin 256) :
    matmul (F := Ideal) (φ₁ := .bf16) (φ₂ := .bf16) dot_S1024x1024_S1024x256_S1024x256_1_0_0_1_n_n none X (shapeCast S1024x256 g shapeCasts_S1x1024x256_S1024x256 : FVec Ideal S1024x256 .bf16)
        (constant S1024x256 .f32 0x00000000#32) (ix2 r y)
      = ∑ k : Fin 1024, (X (ix2 r k) : EReal) * g (ix3 (0 : Fin 1) k y) := by
  refine (product X _ r y).trans (Finset.sum_congr rfl fun k _ => ?_)
  exact congrArg _ (drop_one g _ k y)

/-- A chunk at row `r`, column `j`. -/
theorem chunk_apply (X : Vec Ideal S1024x1024 .bf16) (g u : Vec Ideal S1x1024x256 .bf16) (d : Vec Ideal S1x256x1024 .bf16) (r j : Fin 1024) :
    chunk X g u d (ix2 r j) = ∑ y : Fin 256, hidden (fun k => X (ix2 r k)) (fun k => g (ix3 (0 : Fin 1) k y)) (fun k => u (ix3 (0 : Fin 1) k y))
      * d (ix3 (0 : Fin 1) y j) := by
  unfold chunk k0_pay30
  refine (product _ _ r j).trans (Finset.sum_congr rfl fun y _ => ?_)
  refine congrArg₂ (fun a b : EReal => a * b) ?_ (drop_one d _ y j)
  have hg := gateProduct X g r y
  have hu := gateProduct X u r y
  unfold hidden silu
  rw [← hg, ← hu]
  refine congrArg (fun z : EReal => _ * Ideal.div _ (_ + Ideal.exp z) * _) ?_
  show Ideal.ofBits .f32 0x00000000#32 - _ = _
  rw [Ideal.ofBits_zero_f32, zero_sub]

theorem colsAt_apply (W : S1x1024x3584.Idx → EReal) (k : Fin 14) (c : Fin 1024) (y : Fin 256) :
    colsAt (F := Ideal) W k (ix3 (0 : Fin 1) c y) = W (ix3 (0 : Fin 1) c (unitAt k y)) := by
  refine congrArg W (funext fun a => Fin.ext ?_)
  fin_cases a
  · rfl
  · show 0 + 1 * c.val = c.val; omega
  · show 256 * k.val + 1 * y.val = 256 * k.val + y.val; omega

theorem rowsAt_apply (W : S1x3584x1024.Idx → EReal) (k : Fin 14) (y : Fin 256) (j : Fin 1024) :
    rowsAt (F := Ideal) W k (ix3 (0 : Fin 1) y j) = W (ix3 (0 : Fin 1) (unitAt k y) j) := by
  refine congrArg W (funext fun a => Fin.ext ?_)
  fin_cases a
  · rfl
  · show 256 * k.val + 1 * y.val = 256 * k.val + y.val; omega
  · show 0 + 1 * j.val = j.val; omega

theorem chunkAt_apply (X : Vec Ideal S1024x1024 .bf16) (g u : S1x1024x3584.Idx → EReal) (d : S1x3584x1024.Idx → EReal) (k : Fin 14) (r j : Fin 1024) :
    chunkAt (F := Ideal) X g u d k (ix2 r j) = ∑ y : Fin 256, hidden (fun c => X (ix2 r c)) (fun c => g (ix3 (0 : Fin 1) c (unitAt k y)))
      (fun c => u (ix3 (0 : Fin 1) c (unitAt k y))) * d (ix3 (0 : Fin 1) (unitAt k y) j) := by
  refine (chunk_apply X _ _ _ r j).trans (Finset.sum_congr rfl fun y _ => ?_)
  refine congrArg₂ (fun a b : EReal => a * b) (congrArg₂ (hidden _) ?_ ?_) (rowsAt_apply d k y j)
  · exact funext fun c => colsAt_apply g k c y
  · exact funext fun c => colsAt_apply u k c y

theorem sum_fourteen (h : Fin 14 → EReal) : ∑ k, h k = h 0 + h 1 + h 2 + h 3 + h 4 + h 5 + h 6 + h 7 + h 8 + h 9 + h 10 + h 11 + h 12 + h 13 := by
  simp only [Fin.sum_univ_castSucc, Fin.sum_univ_zero, zero_add]
  rfl

/-- A tile in use: each row's SwiGLU under the expert of the blocks. -/
theorem moeOut_apply (X : Vec Ideal S1024x1024 .bf16) (g u : S1x1024x3584.Idx → EReal) (d : S1x3584x1024.Idx → EReal) (r j : Fin 1024) :
    moeOut (F := Ideal) X g u d (ix2 r j) = swiglu (fun c => X (ix2 r c)) (fun c f => g (ix3 (0 : Fin 1) c f)) (fun c f => u (ix3 (0 : Fin 1) c f))
      (fun f j => d (ix3 (0 : Fin 1) f j)) j := by
  rw [swiglu_chunks, sum_fourteen]
  simp only [← chunkAt_apply X g u d]
  rfl

/-- The rows a tile gathers. -/
theorem gathered_apply (x1 : S32768x1024.Idx → EReal) (wd : Fin 1024 → BitVec 32) (r c : Fin 1024) :
    gathered (F := Ideal) x1 wd (ix2 r c) = x1 (ix2 (⟨(wd r).toNat % 32768, Nat.mod_lt _ (by decide)⟩ : Fin 32768) c) := by
  unfold gathered k0_pay3
  rw [shapeCast_self]
  exact drop_one (fun y : S1x1024x1024.Idx => slab (F := Ideal) x1 wd (ix3 (0 : Fin 2) (y 1) (y 2))) shapeCasts_S1x1024x1024_S1024x1024 r c

end Cert.Proof.Experts

end
-- ==== Proof.Experts.Value.lean ====
/-
  The result of the call, over the extended reals, index by index: `routedOut` of the arguments. Each tile's rows are the
  result's at once (`tile_apply`), and the tiles cover the array.
-/
module

public import proofs.«01_k».proof.Proof.Experts.ChunkValue
public import proofs.«01_k».proof.Proof.Experts.Launch
public import Idealize.ShloMosaic.Lib.Pipeline.ValueKit.Geometry

@[expose] public section

noncomputable section

namespace Cert.Proof.Experts

open Cert.KernelIdeal Cert.KernelIdeal.Gen

open Idealize.ShloMosaic Idealize.ShloMosaic.TcCoe Idealize.ShloMosaic.ValueIdx
open Idealize.ShloMosaic.Pipeline (Dat Cfg Window)

variable (m : (ℓ : Loc nD τ sig) → Buf (Elt Ideal) ℓ) (ρ : Dev nD → PrngReg) (ok : Routed m)

/-! ## What the blocks hold -/

/-- The word of row `r` of tile `n`. -/
theorem words_eq (c : Dev nD) (n : ℕ) (h : n < 71) (r : Fin 1024) :
    words m ρ c n r = src0 m c (ix1 (⟨n * 1024 + r.val, by omega⟩ : Fin 72704)) := by
  unfold words
  rw [dif_pos h, V_rows]
  refine congrArg (src0 m c) (Shape.reshapeEquiv_eq_of_rowMajor _ ?_)
  rw [Shape.rowMajor_val_three, Shape.rowMajor_val_one]
  show n * 1024 + r.val = (n * 1 + 0) * 1024 + r.val
  omega

theorem off1_eq (t : Fin grid0.N) : k0_off1 (grid0.coords t) = ![t.val] := by
  revert t; decide

/-- The prefetched table read where the blocks' maps read it: the tile's expert. -/
theorem table_at (te : S71.Idx → BitVec 32) (nv : S1.Idx → BitVec 32) (t : Fin grid0.N) (h : t.val < 71) :
    (pfN (F := Ideal) te nv).at 0 (Rect.unit (s := S71) (k0_off1 (grid0.coords t)) S1.size (k0_off1_inb (grid0.coords t))) numel1_S1
      = te (ix1 (⟨t.val, h⟩ : Fin 71)) := by
  refine congrArg te (funext fun a => Fin.ext ?_)
  fin_cases a
  have h0 : k0_off1 (grid0.coords t) 0 = t.val := congrFun (off1_eq t) 0
  show k0_off1 (grid0.coords t) 0 + 1 * 0 = t.val
  omega

theorem index2_val (te : S71.Idx → BitVec 32) (nv : S1.Idx → BitVec 32) (t : Fin grid0.N) (h : t.val < 71) :
    cc0_transform_3 k0_off1_inb numel1_S1 (pfN (F := Ideal) te nv) (grid0.coords t) = ![(te (ix1 (⟨t.val, h⟩ : Fin 71))).toNat, 0, 0] :=
  congrArg (fun v : BitVec 32 => ![v.toNat, 0, 0]) (table_at te nv t h)

theorem index3_val (te : S71.Idx → BitVec 32) (nv : S1.Idx → BitVec 32) (t : Fin grid0.N) (h : t.val < 71) :
    cc0_transform_4 k0_off1_inb numel1_S1 (pfN (F := Ideal) te nv) (grid0.coords t) = ![(te (ix1 (⟨t.val, h⟩ : Fin 71))).toNat, 0, 0] :=
  congrArg (fun v : BitVec 32 => ![v.toNat, 0, 0]) (table_at te nv t h)

theorem index4_val (te : S71.Idx → BitVec 32) (nv : S1.Idx → BitVec 32) (t : Fin grid0.N) (h : t.val < 71) :
    cc0_transform_5 k0_off1_inb numel1_S1 (pfN (F := Ideal) te nv) (grid0.coords t) = ![(te (ix1 (⟨t.val, h⟩ : Fin 71))).toNat, 0, 0] :=
  congrArg (fun v : BitVec 32 => ![v.toNat, 0, 0]) (table_at te nv t h)

theorem index5_val (t : Fin grid0.N) : cc0_transform_6 (grid0.coords t) = ![t.val, 0] := by
  revert t; decide

/-- The three weights as launched. -/
abbrev gW (c : Dev nD) : S8x1024x3584.Idx → EReal := m ((c : Thread nD τ).loc main_arg4)
abbrev uW (c : Dev nD) : S8x1024x3584.Idx → EReal := m ((c : Thread nD τ).loc main_arg5)
abbrev dW (c : Dev nD) : S8x3584x1024.Idx → EReal := m ((c : Thread nD τ).loc main_arg6)

/-- The conversions before the region change nothing over the extended reals. -/
theorem V_g (c : Dev nD) : (V m ρ c main_v1 : S8x1024x3584.Idx → EReal) = gW m c := by rfl
theorem V_u (c : Dev nD) : (V m ρ c main_v2 : S8x1024x3584.Idx → EReal) = uW m c := by rfl
theorem V_d (c : Dev nD) : (V m ρ c main_v3 : S8x3584x1024.Idx → EReal) = dW m c := by rfl

/-- The expert of tile `t`. -/
def expertOf (te : S71.Idx → BitVec 32) (t : Fin 71) : Fin 8 := ⟨(te (ix1 t)).toNat % 8, Nat.mod_lt _ (by decide)⟩

theorem weight2 (t : Fin (cfgA m ok).N) (h : t.val < 71) (a : Fin 1024) (b : Fin 3584) :
    blkOf m ρ ok 0 2 t (ix3 (0 : Fin 1) a b) = gW m 0 (ix3 (expertOf (te0 m 0) ⟨t.val, h⟩) a b) := by
  refine (congrArg (V m ρ 0 main_v1 : S8x1024x3584.Idx → EReal) (funext fun x => Fin.ext ?_)).trans (congrFun (V_g m ρ 0) _)
  refine (Pipeline.Window.rect_emb_val ((cfgA m ok).win 2) t _ x).trans ?_
  have hi : ((cfgA m ok).win 2).index t = ![(te0 m 0 (ix1 (⟨t.val, h⟩ : Fin 71))).toNat, 0, 0] := index2_val _ _ t h
  have he := (ok 0).expert (ix1 (⟨t.val, h⟩ : Fin 71))
  rw [hi]
  fin_cases x
  · show (te0 m 0 (ix1 (⟨t.val, h⟩ : Fin 71))).toNat * 1 + 0 = (te0 m 0 (ix1 (⟨t.val, h⟩ : Fin 71))).toNat % 8; omega
  · show 0 * 1024 + a.val = a.val; omega
  · show 0 * 3584 + b.val = b.val; omega

theorem weight3 (t : Fin (cfgA m ok).N) (h : t.val < 71) (a : Fin 1024) (b : Fin 3584) :
    blkOf m ρ ok 0 3 t (ix3 (0 : Fin 1) a b) = uW m 0 (ix3 (expertOf (te0 m 0) ⟨t.val, h⟩) a b) := by
  refine (congrArg (V m ρ 0 main_v2 : S8x1024x3584.Idx → EReal) (funext fun x => Fin.ext ?_)).trans (congrFun (V_u m ρ 0) _)
  refine (Pipeline.Window.rect_emb_val ((cfgA m ok).win 3) t _ x).trans ?_
  have hi : ((cfgA m ok).win 3).index t = ![(te0 m 0 (ix1 (⟨t.val, h⟩ : Fin 71))).toNat, 0, 0] := index3_val _ _ t h
  have he := (ok 0).expert (ix1 (⟨t.val, h⟩ : Fin 71))
  rw [hi]
  fin_cases x
  · show (te0 m 0 (ix1 (⟨t.val, h⟩ : Fin 71))).toNat * 1 + 0 = (te0 m 0 (ix1 (⟨t.val, h⟩ : Fin 71))).toNat % 8; omega
  · show 0 * 1024 + a.val = a.val; omega
  · show 0 * 3584 + b.val = b.val; omega

theorem weight4 (t : Fin (cfgA m ok).N) (h : t.val < 71) (a : Fin 3584) (b : Fin 1024) :
    blkOf m ρ ok 0 4 t (ix3 (0 : Fin 1) a b) = dW m 0 (ix3 (expertOf (te0 m 0) ⟨t.val, h⟩) a b) := by
  refine (congrArg (V m ρ 0 main_v3 : S8x3584x1024.Idx → EReal) (funext fun x => Fin.ext ?_)).trans (congrFun (V_d m ρ 0) _)
  refine (Pipeline.Window.rect_emb_val ((cfgA m ok).win 4) t _ x).trans ?_
  have hi : ((cfgA m ok).win 4).index t = ![(te0 m 0 (ix1 (⟨t.val, h⟩ : Fin 71))).toNat, 0, 0] := index4_val _ _ t h
  have he := (ok 0).expert (ix1 (⟨t.val, h⟩ : Fin 71))
  rw [hi]
  fin_cases x
  · show (te0 m 0 (ix1 (⟨t.val, h⟩ : Fin 71))).toNat * 1 + 0 = (te0 m 0 (ix1 (⟨t.val, h⟩ : Fin 71))).toNat % 8; omega
  · show 0 * 3584 + a.val = a.val; omega
  · show 0 * 1024 + b.val = b.val; omega

/-! ## A tile -/

/-- The result, of the arguments as launched. -/
def expected (c : Dev nD) : S72704x1024.Idx → EReal := routedOut (x1W m c) (src0 m c) (te0 m c) (nv0 m c) (gW m c) (uW m c) (dW m c)

theorem tile_apply (t : Fin (cfgA m ok).N) (h : t.val < 71) (r j : Fin 1024) :
    tileAt m ρ ok 0 t (ix2 r j) = expected m 0 (ix2 (⟨t.val * 1024 + r.val, by omega⟩ : Fin 72704) j) := by
  have hq : (t.val * 1024 + r.val) / 1024 = t.val := by omega
  have hl : ((((ix2 (⟨t.val * 1024 + r.val, by omega⟩ : Fin 72704) j : S72704x1024.Idx) 0).val / 1024 : ℕ) : ℤ) < (nv0 m 0 (ix1 (0 : Fin 1))).toInt
      ↔ Live (nvW m 0) t.val := by
    show (((t.val * 1024 + r.val) / 1024 : ℕ) : ℤ) < _ ↔ (t.val : ℤ) < _
    rw [hq]
  unfold tileAt tileOut expected routedOut
  by_cases hp : Live (nvW m 0) t.val
  · rw [if_pos hp, if_pos (hl.mpr hp)]
    refine (moeOut_apply _ _ _ _ r j).trans ?_
    have ht : (⟨(t.val * 1024 + r.val) / 1024, by omega⟩ : Fin 71) = ⟨t.val, h⟩ := Fin.ext hq
    have hx : (fun c => gathered (F := Ideal) (x1W m 0) (words m ρ 0 t.val) (ix2 r c))
        = fun k => x1W m 0 (ix2 (⟨(src0 m 0 (ix1 (⟨t.val * 1024 + r.val, by omega⟩ : Fin 72704))).toNat % 32768, Nat.mod_lt _ (by decide)⟩ : Fin 32768) k) := by
      funext k
      refine (gathered_apply _ _ r k).trans ?_
      refine congrArg (x1W m 0) (congrArg (fun a : Fin 32768 => ix2 a k) (Fin.ext ?_))
      exact congrArg (fun v : BitVec 32 => v.toNat % 32768) (words_eq m ρ 0 t.val h r)
    have hg : (fun c f => (blkOf m ρ ok 0 2 t : S1x1024x3584.Idx → EReal) (ix3 (0 : Fin 1) c f)) = fun k f => gW m 0 (ix3 (expertOf (te0 m 0) ⟨t.val, h⟩) k f) :=
      funext fun k => funext fun f => weight2 m ρ ok t h k f
    have hu : (fun c f => (blkOf m ρ ok 0 3 t : S1x1024x3584.Idx → EReal) (ix3 (0 : Fin 1) c f)) = fun k f => uW m 0 (ix3 (expertOf (te0 m 0) ⟨t.val, h⟩) k f) :=
      funext fun k => funext fun f => weight3 m ρ ok t h k f
    have hd : (fun f j => (blkOf m ρ ok 0 4 t : S1x3584x1024.Idx → EReal) (ix3 (0 : Fin 1) f j)) = fun k f => dW m 0 (ix3 (expertOf (te0 m 0) ⟨t.val, h⟩) k f) :=
      funext fun k => funext fun f => weight4 m ρ ok t h k f
    refine (congrArg₂ (fun x g => swiglu x g _ _ j) hx hg).trans ?_
    refine (congrArg₂ (fun u d => swiglu _ _ u d j) hu hd).trans ?_
    rw [← ht]
    rfl
  · rw [if_neg hp, if_neg (fun hh => hp (hl.mp hh))]
    exact Ideal.ofBits_zero_f32

/-! ## The array -/

theorem flush5 (t : Fin (cfgA m ok).N) : ((cfgA m ok).win 5).flush t = true := by
  have key : ∀ t : Fin grid0.N, Window.flushOf grid0 true cc0_transform_6 t = true := by decide
  exact (Window.flush_eq_flushOf _ t).trans (key t)

/-- Every element of a tile lies in the array at the tile's rows. -/
theorem emb5 (t : Fin (cfgA m ok).N) (h : t.val < 71) (r j : Fin 1024) :
    (((cfgA m ok).win 5).blk t).view.emb (ix2 r j) = ix2 (⟨t.val * 1024 + r.val, by omega⟩ : Fin 72704) j := by
  refine funext fun a => Fin.ext ?_
  refine (Pipeline.Window.rect_emb_val ((cfgA m ok).win 5) t _ a).trans ?_
  have hi : ((cfgA m ok).win 5).index t = ![t.val, 0] := index5_val t
  rw [hi]
  fin_cases a
  · rfl
  · show 0 * 1024 + j.val = j.val; omega

theorem result_eq (c : Dev nD) : result m ρ ok c = expected m c := by
  obtain rfl : c = 0 := Subsingleton.elim _ _
  refine (dats m ρ ok 0 0).arrAt_eq_of_emb 5 (expected m 0) (fun t _ (y : S1024x1024.Idx) => ?_) (fun (i : S72704x1024.Idx) => ?_)
  · have ht : t.val < 71 := t.isLt
    have ey : y = (ix2 (y 0) (y 1) : S1024x1024.Idx) := funext fun a => by fin_cases a <;> rfl
    have hv : tileAt m ρ ok 0 t y = tileAt m ρ ok 0 t (ix2 (y 0) (y 1)) := congrArg (tileAt m ρ ok 0 t) ey
    have he : (((cfgA m ok).win 5).blk t).view.emb y = ix2 (⟨t.val * 1024 + (y 0).val, by have := (y 0).isLt; change (y 0).val < 1024 at this; omega⟩ : Fin 72704) (y 1) :=
      (congrArg (((cfgA m ok).win 5).blk t).view.emb ey).trans (emb5 m ok t ht (y 0) (y 1))
    exact (hv.trans (tile_apply m ρ ok t ht (y 0) (y 1))).trans (congrArg (expected m 0) he.symm)
  · have h0 : (i 0).val < 72704 := (i 0).isLt
    have h1 : (i 1).val < 1024 := (i 1).isLt
    have ht : (i 0).val / 1024 < 71 := by omega
    let t : Fin (cfgA m ok).N := ⟨(i 0).val / 1024, ht⟩
    have e : (ix2 (⟨t.val * 1024 + (i 0).val % 1024, by show (i 0).val / 1024 * 1024 + (i 0).val % 1024 < 72704; omega⟩ : Fin 72704) (⟨(i 1).val, h1⟩ : Fin 1024) : S72704x1024.Idx) = i := by
      refine funext fun a => Fin.ext ?_
      fin_cases a
      · show (i 0).val / 1024 * 1024 + (i 0).val % 1024 = (i 0).val; omega
      · rfl
    have hm : (((cfgA m ok).win 5).blk t).view.emb (ix2 (⟨(i 0).val % 1024, by omega⟩ : Fin 1024) (⟨(i 1).val, h1⟩ : Fin 1024))
        ∈ (((cfgA m ok).win 5).blk t).view.set := View.emb_mem_set _ _
    have hm' := (emb5 m ok t ht ⟨(i 0).val % 1024, by omega⟩ ⟨(i 1).val, h1⟩).trans e
    exact ⟨t, flush5 m ok t, (congrArg (fun x => x ∈ (((cfgA m ok).win 5).blk t).view.set) hm').mp hm⟩

end Cert.Proof.Experts

end
-- ==== Proof.Experts.RefValue.lean ====
/-
  The reference's result, over the extended reals, index by index: `routedOut` of its arguments (`reference_eq`). It runs
  every expert over every row and adds the eight results, each kept only on the rows whose tile is in use and names that
  expert; a tile names exactly one, so the sum is that expert's term (`sum_of_one`).
-/
module

public import proofs.«01_k».proof.Proof.Experts.Spec
public import proofs.«01_k».proof.Proof.Gen.ReferenceIdeal.Run
public import Idealize.ShloMosaic.Lib.StackMember
public import Idealize.ShloMosaic.Lib.ValueLayout
public import Idealize.ShloMosaic.Lib.Routing.Ops

@[expose] public section

noncomputable section

namespace Cert.Proof.Experts.Reference

open Cert.ReferenceIdeal Cert.ReferenceIdeal.Gen Cert.ReferenceIdeal.Value

open Idealize.ShloMosaic Idealize.ShloMosaic.TcCoe Idealize.ShloMosaic.ValueIdx
open scoped BigOperators

/-! ## One expert -/

/-- Expert `e`'s matrix of a stack, as the reference cuts it out. -/
abbrev cut (W : FVec Ideal S8x1024x3584 .f32) (e : Fin 8) (h : S8x1024x3584.Slices ![e.val, 0, 0] S1x1024x3584) : FVec Ideal S1024x3584 .f32 :=
  shapeCast S1024x3584 (extractStridedSlice S1x1024x3584 ![e.val, 0, 0] W h) shapeCasts_S1x1024x3584_S1024x3584

abbrev cutDown (W : FVec Ideal S8x3584x1024 .f32) (e : Fin 8) (h : S8x3584x1024.Slices ![e.val, 0, 0] S1x3584x1024) : FVec Ideal S3584x1024 .f32 :=
  shapeCast S3584x1024 (extractStridedSlice S1x3584x1024 ![e.val, 0, 0] W h) shapeCasts_S1x3584x1024_S3584x1024

theorem cut_apply (W : FVec Ideal S8x1024x3584 .f32) (e : Fin 8) (h : S8x1024x3584.Slices ![e.val, 0, 0] S1x1024x3584) (p : Fin 1024) (q : Fin 3584) :
    cut W e h (ix2 p q) = W (ix3 e p q) := by
  refine (congrArg (extractStridedSlice S1x1024x3584 ![e.val, 0, 0] W h) (reshapeEquiv_ix2_1ab _ p q)).trans ?_
  refine congrArg W (funext fun a => Fin.ext ?_)
  match a with
  | ⟨0, _⟩ => show e.val + 0 = e.val; omega
  | ⟨1, _⟩ => show 0 + p.val = p.val; omega
  | ⟨2, _⟩ => show 0 + q.val = q.val; omega

theorem cutDown_apply (W : FVec Ideal S8x3584x1024 .f32) (e : Fin 8) (h : S8x3584x1024.Slices ![e.val, 0, 0] S1x3584x1024) (p : Fin 3584) (q : Fin 1024) :
    cutDown W e h (ix2 p q) = W (ix3 e p q) := by
  refine (congrArg (extractStridedSlice S1x3584x1024 ![e.val, 0, 0] W h) (reshapeEquiv_ix2_1ab _ p q)).trans ?_
  refine congrArg W (funext fun a => Fin.ext ?_)
  match a with
  | ⟨0, _⟩ => show e.val + 0 = e.val; omega
  | ⟨1, _⟩ => show 0 + p.val = p.val; omega
  | ⟨2, _⟩ => show 0 + q.val = q.val; omega

/-- Rows times a matrix. -/
abbrev times (X : FVec Ideal S72704x1024 .f32) (W : FVec Ideal S1024x3584 .f32) : FVec Ideal S72704x3584 .f32 :=
  Host.dotGeneral (F := Ideal) dot_S72704x1024_S1024x3584_S72704x3584_1_0_0_1_n_n none X W

/-- The hidden units of every row. -/
abbrev units (G U : FVec Ideal S72704x3584 .f32) : FVec Ideal S72704x3584 .f32 :=
  mulf (mulf G (Host.divf (broadcastInDim S72704x3584 ![] bcast_S_S72704x3584 (constant S_ .f32 0x3F800000#32))
    (addf (broadcastInDim S72704x3584 ![] bcast_S_S72704x3584 (constant S_ .f32 0x3F800000#32)) (Host.exp (Host.negf G))))) U

/-- Zero everywhere. -/
abbrev zeros : FVec Ideal S72704x1024 .f32 := broadcastInDim S72704x1024 ![] bcast_S_S72704x1024 (constant S_ .f32 0x00000000#32)

/-- Expert `e`'s share of the result: its SwiGLU of every row, zero off the rows `on` keeps whose expert `ex` is not `e`. -/
abbrev share (X : FVec Ideal S72704x1024 .f32) (ex : IVec S72704 32) (on : IVec S72704 1) (g u : FVec Ideal S8x1024x3584 .f32)
    (d : FVec Ideal S8x3584x1024 .f32) (e : Fin 8) (h : S8x1024x3584.Slices ![e.val, 0, 0] S1x1024x3584)
    (hd : S8x3584x1024.Slices ![e.val, 0, 0] S1x3584x1024) : FVec Ideal S72704x1024 .f32 :=
  select (broadcastInDim S72704x1024 ![0, 1] bcast_S72704x1_S72704x1024_0_1 (broadcastInDim S72704x1 ![0] bcast_S72704_S72704x1_0
      (andi on (cmpi .eq ex (broadcastInDim S72704 ![] bcast_S_S72704 (constantI S_ 32 (BitVec.ofNat 32 e.val)))))))
    (Host.dotGeneral (F := Ideal) dot_S72704x3584_S3584x1024_S72704x1024_1_0_0_1_n_n none
      (units (times X (cut g e h)) (times X (cut u e h))) (cutDown d e hd))
    zeros

theorem times_apply (X : FVec Ideal S72704x1024 .f32) (W : FVec Ideal S1024x3584 .f32) (i : Fin 72704) (f : Fin 3584) :
    times X W (ix2 i f) = ∑ k : Fin 1024, (X (ix2 i k) : EReal) * W (ix2 k f) :=
  StackMember.dotGeneral_plain_apply none X W i f

theorem zeros_apply (x : S72704x1024.Idx) : (zeros x : EReal) = 0 := Ideal.ofBits_zero_f32

theorem units_apply (X : FVec Ideal S72704x1024 .f32) (g u : FVec Ideal S1024x3584 .f32) (i : Fin 72704) (f : Fin 3584) :
    units (times X g) (times X u) (ix2 i f) = hidden (fun k => X (ix2 i k)) (fun k => g (ix2 k f)) (fun k => u (ix2 k f)) := by
  unfold hidden silu
  rw [← times_apply X g i f, ← times_apply X u i f]
  rfl

theorem share_apply (X : FVec Ideal S72704x1024 .f32) (ex : IVec S72704 32) (on : IVec S72704 1) (g u : FVec Ideal S8x1024x3584 .f32)
    (d : FVec Ideal S8x3584x1024 .f32) (e : Fin 8) (h : S8x1024x3584.Slices ![e.val, 0, 0] S1x1024x3584)
    (hd : S8x3584x1024.Slices ![e.val, 0, 0] S1x3584x1024) (i : Fin 72704) (j : Fin 1024) :
    (share X ex on g u d e h hd (ix2 i j) : EReal)
      = if on (ix1 i) = 1#1 ∧ ex (ix1 i) = BitVec.ofNat 32 e.val then
          swiglu (fun k => X (ix2 i k)) (fun k f => g (ix3 e k f)) (fun k f => u (ix3 e k f)) (fun f j => d (ix3 e f j)) j
        else 0 := by
  have hv : (Host.dotGeneral (F := Ideal) dot_S72704x3584_S3584x1024_S72704x1024_1_0_0_1_n_n none
      (units (times X (cut g e h)) (times X (cut u e h))) (cutDown d e hd) (ix2 i j) : EReal)
      = swiglu (fun k => X (ix2 i k)) (fun k f => g (ix3 e k f)) (fun k f => u (ix3 e k f)) (fun f j => d (ix3 e f j)) j := by
    refine (StackMember.dotGeneral_plain_apply none _ _ i j).trans (Finset.sum_congr rfl fun f _ => ?_)
    refine congrArg₂ (fun a b : EReal => a * b) ((units_apply X _ _ i f).trans ?_) (cutDown_apply d e hd f j)
    exact congrArg₂ (hidden _) (funext fun k => cut_apply g e h k f) (funext fun k => cut_apply u e h k f)
  have hc : broadcastInDim S72704x1024 ![0, 1] bcast_S72704x1_S72704x1024_0_1 (broadcastInDim S72704x1 ![0] bcast_S72704_S72704x1_0
      (andi on (cmpi .eq ex (broadcastInDim S72704 ![] bcast_S_S72704 (constantI S_ 32 (BitVec.ofNat 32 e.val)))))) (ix2 i j)
      = on (ix1 i) &&& BitVec.ofBool (ex (ix1 i) == BitVec.ofNat 32 e.val) := by
    have e1 : ∀ v : IVec S72704 1, broadcastInDim S72704x1024 ![0, 1] bcast_S72704x1_S72704x1024_0_1 (broadcastInDim S72704x1 ![0] bcast_S72704_S72704x1_0 v) (ix2 i j) = v (ix1 i) := fun v =>
      congrArg v (funext fun a => Fin.ext (by fin_cases a; rfl))
    exact e1 _
  show Scalar.select _ _ _ = _
  rw [hc, hv, zeros_apply]
  unfold Scalar.select
  by_cases h1 : on (ix1 i) = 1#1
  · by_cases h2 : ex (ix1 i) = BitVec.ofNat 32 e.val
    · rw [h1, h2]; simp
    · have : (ex (ix1 i) == BitVec.ofNat 32 e.val) = false := by simpa using h2
      rw [if_neg (by rw [this]; simp), if_neg fun h => h2 h.2]
  · rw [eq_zero_of_ne_one h1, if_neg (by simp), if_neg (by simp)]

/-! ## The eight together -/

/-- Eight terms, the one kept that `x` names. -/
theorem sum_of_one (p : Prop) [Decidable p] (x : BitVec 32) (hx : x.toNat < 8) (t : Fin 8 → EReal) :
    ((((((((0 + if p ∧ x = 0#32 then t 0 else 0) + if p ∧ x = 1#32 then t 1 else 0) + if p ∧ x = 2#32 then t 2 else 0)
      + if p ∧ x = 3#32 then t 3 else 0) + if p ∧ x = 4#32 then t 4 else 0) + if p ∧ x = 5#32 then t 5 else 0)
      + if p ∧ x = 6#32 then t 6 else 0) + if p ∧ x = 7#32 then t 7 else 0)
      = if p then t ⟨x.toNat % 8, Nat.mod_lt _ (by decide)⟩ else 0 := by
  by_cases hp : p
  · obtain ⟨n, hn⟩ : ∃ n : Fin 8, x = BitVec.ofNat 32 n.val := ⟨⟨x.toNat, hx⟩, by simp⟩
    subst hn
    fin_cases n <;> simp [hp]
  · simp [hp]

variable (V : Valuation τ sig (Elt Ideal))

/-- The arguments. -/
abbrev X1 : S32768x1024.Idx → EReal := V (Proc.devRef .tc main_arg0)
abbrev src : S72704.Idx → BitVec 32 := V (Proc.devRef .tc main_arg1)
abbrev te : S71.Idx → BitVec 32 := V (Proc.devRef .tc main_arg2)
abbrev nv : S1.Idx → BitVec 32 := V (Proc.devRef .tc main_arg3)

/-- A row of the gathered array. -/
theorem rows_apply (i : Fin 72704) (k : Fin 1024) (h : (src V (ix1 i)).toNat < 32768) :
    (res_main_v6 V (ix2 i k) : EReal) = X1 V (ix2 (⟨(src V (ix1 i)).toNat % 32768, Nat.mod_lt _ (by decide)⟩ : Fin 32768) k) := by
  unfold res_main_v6
  refine Routing.gather_row _ rfl rfl rfl rfl rfl _ _ i k _ ?_ (by decide)
  have e1 : ∀ v : IVec S72704 32, broadcastInDim S72704x1 ![0] bcast_S72704_S72704x1_0 v (ix2 i (0 : Fin 1)) = v (ix1 i) := fun v =>
    congrArg v (funext fun a => Fin.ext (by fin_cases a; rfl))
  refine (e1 _).trans ?_
  show Scalar.select (BitVec.ofBool ((src V (ix1 i)).slt 0#32)) (src V (ix1 i) + 32768#32) (src V (ix1 i)) = _
  have h0 : (src V (ix1 i)).slt 0#32 = false := by
    rw [BitVec.slt_eq_decide, BitVec.toInt_eq_toNat_of_lt (by omega)]
    simp
  rw [h0]
  refine BitVec.eq_of_toNat_eq ?_
  show (src V (ix1 i)).toNat = _
  rw [BitVec.toNat_ofNat]
  show _ = (src V (ix1 i)).toNat % 32768 % _
  omega

/-- Where row `i` lies in the array of tiles. -/
theorem tile_of (i : Fin 72704) : Shape.reshapeEquiv shapeCasts_S71x1024_S72704 (ix1 i)
    = (ix2 (⟨i.val / 1024, by omega⟩ : Fin 71) (⟨i.val % 1024, Nat.mod_lt _ (by decide)⟩ : Fin 1024) : S71x1024.Idx) := by
  refine Shape.reshapeEquiv_eq_of_rowMajor _ ?_
  rw [Shape.rowMajor_val_two, Shape.rowMajor_val_one]
  show i.val / 1024 * 1024 + i.val % 1024 = i.val
  omega

theorem spread {α : Type} (v : S71.Idx → α) (i : Fin 72704) :
    shapeCast S72704 (broadcastInDim S71x1024 ![0, 1] bcast_S71x1_S71x1024_0_1 (broadcastInDim S71x1 ![0] bcast_S71_S71x1_0 v)) shapeCasts_S71x1024_S72704 (ix1 i)
      = v (ix1 (⟨i.val / 1024, by omega⟩ : Fin 71)) := by
  refine (congrArg (broadcastInDim S71x1024 ![0, 1] bcast_S71x1_S71x1024_0_1 (broadcastInDim S71x1 ![0] bcast_S71_S71x1_0 v)) (tile_of i)).trans ?_
  exact congrArg v (funext fun a => Fin.ext (by fin_cases a; rfl))

theorem expert_apply (i : Fin 72704) : res_main_v9 V (ix1 i) = te V (ix1 (⟨i.val / 1024, by omega⟩ : Fin 71)) := by
  unfold res_main_v9
  exact spread _ i

theorem used_apply (i : Fin 72704) : res_main_v15 V (ix1 i) = 1#1 ↔ ((i.val / 1024 : ℕ) : ℤ) < (nv V (ix1 (0 : Fin 1))).toInt := by
  have e : res_main_v15 V (ix1 i) = BitVec.ofBool ((BitVec.ofNat 32 (i.val / 1024)).slt (nv V (ix1 (0 : Fin 1)))) := by
    unfold res_main_v15
    refine (spread _ i).trans ?_
    exact congrArg (fun x => BitVec.ofBool ((BitVec.ofNat 32 (i.val / 1024)).slt (nv V x))) (funext fun a => Fin.ext (by fin_cases a; rfl))
  have hi := i.isLt
  have ht : (BitVec.ofNat 32 (i.val / 1024)).toInt = ((i.val / 1024 : ℕ) : ℤ) := by
    rw [BitVec.toInt_eq_toNat_of_lt (by rw [BitVec.toNat_ofNat]; omega), BitVec.toNat_ofNat]
    congr 1; omega
  rw [e, BitVec.slt_eq_decide, ht]
  by_cases h : ((i.val / 1024 : ℕ) : ℤ) < (nv V (ix1 (0 : Fin 1))).toInt
  · rw [decide_eq_true h]; exact ⟨fun _ => h, fun _ => rfl⟩
  · rw [decide_eq_false h]; exact ⟨fun e => absurd e (show ¬(0#1 : BitVec 1) = 1#1 by decide), fun e => absurd e h⟩

/-- The result as the sum of the shares. -/
theorem shares : res_main_v152 V
    = (let t := share (res_main_v6 V) (res_main_v9 V) (res_main_v15 V) (V (Proc.devRef .tc main_arg4)) (V (Proc.devRef .tc main_arg5)) (V (Proc.devRef .tc main_arg6))
      addf (addf (addf (addf (addf (addf (addf (addf zeros (t 0 slices_S8x1024x3584_S1x1024x3584_0_0_0 slices_S8x3584x1024_S1x3584x1024_0_0_0))
        (t 1 slices_S8x1024x3584_S1x1024x3584_1_0_0 slices_S8x3584x1024_S1x3584x1024_1_0_0))
        (t 2 slices_S8x1024x3584_S1x1024x3584_2_0_0 slices_S8x3584x1024_S1x3584x1024_2_0_0))
        (t 3 slices_S8x1024x3584_S1x1024x3584_3_0_0 slices_S8x3584x1024_S1x3584x1024_3_0_0))
        (t 4 slices_S8x1024x3584_S1x1024x3584_4_0_0 slices_S8x3584x1024_S1x3584x1024_4_0_0))
        (t 5 slices_S8x1024x3584_S1x1024x3584_5_0_0 slices_S8x3584x1024_S1x3584x1024_5_0_0))
        (t 6 slices_S8x1024x3584_S1x1024x3584_6_0_0 slices_S8x3584x1024_S1x3584x1024_6_0_0))
        (t 7 slices_S8x1024x3584_S1x1024x3584_7_0_0 slices_S8x3584x1024_S1x3584x1024_7_0_0)) := by
  unfold res_main_v152 res_main_v84 res_main_v27 res_main_v44 res_main_v61 res_main_v78 res_main_v95 res_main_v112 res_main_v129 res_main_v146
  rfl

theorem reference_eq (hs : ∀ x, (src V x).toNat < 32768) (he : ∀ x, (te V x).toNat < 8) :
    res_main_v152 V = routedOut (X1 V) (src V) (te V) (nv V) (V (Proc.devRef .tc main_arg4)) (V (Proc.devRef .tc main_arg5)) (V (Proc.devRef .tc main_arg6)) := by
  funext x
  obtain ⟨i, j, rfl⟩ : ∃ (i : Fin 72704) (j : Fin 1024), x = ix2 i j := ⟨x 0, x 1, funext fun a => by fin_cases a <;> rfl⟩
  rw [shares]
  let sw : Fin 8 → EReal := fun e => swiglu (fun k => res_main_v6 V (ix2 i k)) (fun k f => V (Proc.devRef .tc main_arg4) (ix3 e k f))
    (fun k f => V (Proc.devRef .tc main_arg5) (ix3 e k f)) (fun f j => V (Proc.devRef .tc main_arg6) (ix3 e f j)) j
  have hsum := sum_of_one (res_main_v15 V (ix1 i) = 1#1) (res_main_v9 V (ix1 i)) (by rw [expert_apply]; exact he _) sw
  refine Eq.trans ?_ (hsum.trans ?_)
  · refine congrArg₂ (fun a b : EReal => a + b) (congrArg₂ (fun a b : EReal => a + b) (congrArg₂ (fun a b : EReal => a + b)
      (congrArg₂ (fun a b : EReal => a + b) (congrArg₂ (fun a b : EReal => a + b) (congrArg₂ (fun a b : EReal => a + b)
      (congrArg₂ (fun a b : EReal => a + b) (congrArg₂ (fun a b : EReal => a + b) (zeros_apply _) ?_) ?_) ?_) ?_) ?_) ?_) ?_) ?_
    all_goals exact share_apply _ _ _ _ _ _ _ _ _ i j
  · unfold routedOut
    refine if_congr (used_apply V i) ?_ rfl
    have hrow : (fun k => (res_main_v6 V (ix2 i k) : EReal)) = fun k => X1 V (ix2 (⟨(src V (ix1 i)).toNat % 32768, Nat.mod_lt _ (by decide)⟩ : Fin 32768) k) :=
      funext fun k => rows_apply V i k (hs _)
    show swiglu _ _ _ _ j = swiglu _ _ _ _ j
    rw [hrow]
    have hex : (⟨(res_main_v9 V (ix1 i)).toNat % 8, Nat.mod_lt _ (by decide)⟩ : Fin 8)
        = ⟨(te V (ix1 (⟨i.val / 1024, by omega⟩ : Fin 71))).toNat % 8, Nat.mod_lt _ (by decide)⟩ :=
      Fin.ext (congrArg (fun w : BitVec 32 => w.toNat % 8) (expert_apply V i))
    rw [hex]

end Cert.Proof.Experts.Reference

end
-- ==== Proof.InProj.Value.lean ====
/-
  The input projection, over the extended reals, index by index: the product of the arguments in the first 3080 columns,
  zero in the last 120. The kernel pads its matrix and multiplies; the reference multiplies and pads.
-/
module

public import proofs.«01_k».proof.Proof.Experts.ChunkValue
public import proofs.«01_k».proof.Proof.Gen.Kernel3Ideal.Value
public import proofs.«01_k».proof.Proof.Gen.Reference3Ideal.Run
public import Idealize.ShloMosaic.Lib.KernelVsHost
public import Idealize.ShloMosaic.Lib.StackMember
public import Idealize.ShloMosaic.Lib.Pipeline.ValueKit.Geometry

@[expose] public section

noncomputable section

namespace Cert.Proof.InProj

open Cert.Kernel3Ideal Cert.Kernel3Ideal.Gen

open Idealize.ShloMosaic Idealize.ShloMosaic.TcCoe Idealize.ShloMosaic.ValueIdx
open Idealize.ShloMosaic.Pipeline (Dat Cfg Window)
open scoped BigOperators

/-- The product in the first 3080 columns, zero in the others. -/
def projected (x : S32768x1024.Idx → EReal) (w : S1024x3080.Idx → EReal) (r : Fin 32768) (j : Fin 3200) : EReal :=
  if h : j.val < 3080 then ∑ k : Fin 1024, x (ix2 r k) * w (ix2 k ⟨j.val, h⟩) else 0

/-! ## Padding columns -/

theorem pad_left {a : ℕ} (x : (⟨2, ![a, 3080]⟩ : Shape).Idx → EReal) (v : S_.Idx → EReal)
    (h : (⟨2, ![a, 3080]⟩ : Shape).Pads ![0, 0] ![0, 120] ![0, 0] ⟨2, ![a, 3200]⟩) (hu : 0 < S_.numel) (r : Fin a) (j : Fin 3200)
    (hj : j.val < 3080) :
    pad ⟨2, ![a, 3200]⟩ ![0, 0] ![0, 120] ![0, 0] x v h hu (ix2 r j) = x (ix2 r ⟨j.val, hj⟩) := by
  refine pad_apply_of_inside _ _ _ x v h hu (ix2 r j) (ix2 r ⟨j.val, hj⟩) fun b => ?_
  fin_cases b
  · show r.val = 0 + r.val * 1; omega
  · show j.val = 0 + j.val * 1; omega

theorem pad_right {a : ℕ} (x : (⟨2, ![a, 3080]⟩ : Shape).Idx → EReal) (v : S_.Idx → EReal)
    (h : (⟨2, ![a, 3080]⟩ : Shape).Pads ![0, 0] ![0, 120] ![0, 0] ⟨2, ![a, 3200]⟩) (hu : 0 < S_.numel) (r : Fin a) (j : Fin 3200)
    (hj : ¬j.val < 3080) :
    pad ⟨2, ![a, 3200]⟩ ![0, 0] ![0, 120] ![0, 0] x v h hu (ix2 r j) = v (Shape.Idx.first hu) := by
  refine pad_apply_of_not_inside _ _ _ x v h hu (ix2 r j) 1 fun hh => hj ?_
  have h1 : (j.val - 0) / 1 < 3080 := hh.2.2
  omega

theorem zero_word (z : S_.Idx) : (sitofp (F := Ideal) .f32 (constantI S_ 32 0#32) z : EReal) = 0 := by
  show (((0#32 : BitVec 32).toInt : ℝ) : EReal) = 0
  simp

/-! ## The kernel -/

variable (m : (ℓ : Loc nD τ sig) → Buf (Elt Ideal) ℓ)

abbrev xW (c : Dev nD) : S32768x1024.Idx → EReal := m ((c : Thread nD τ).loc main_arg0)
abbrev wW (c : Dev nD) : S1024x3080.Idx → EReal := m ((c : Thread nD τ).loc main_arg1)

/-- The matrix the region reads: the argument padded, its conversion changing nothing over the extended reals. -/
theorem V_w (c : Dev nD) : (V m c main_v1 : S1024x3200.Idx → EReal)
    = pad S1024x3200 ![0, 0] ![0, 120] ![0, 0] (wW m c) (sitofp (F := Ideal) .f32 (constantI S_ 32 0#32)) pads_S1024x3080_S1024x3200_000_01200 h_S_ := by rfl

def expected (c : Dev nD) : S32768x3200.Idx → EReal := fun i => projected (xW m c) (wW m c) (i 0) (i 1)

theorem index0_val (t : Fin grid0.N) : cc0_transform_0 (grid0.coords t) = ![t.val, 0] := by revert t; decide
theorem index1_val (t : Fin grid0.N) : cc0_transform_1 (grid0.coords t) = ![0, 0] := by revert t; decide
theorem index2_val (t : Fin grid0.N) : cc0_transform_2 (grid0.coords t) = ![t.val, 0] := by revert t; decide

theorem rows_apply (c : Dev nD) (t : Fin cfg0.N) (h : t.val < 64) (r : Fin 512) (k : Fin 1024) :
    iblk m c 0 t (ix2 r k) = xW m c (ix2 (⟨t.val * 512 + r.val, by omega⟩ : Fin 32768) k) := by
  refine (congrArg (V m c main_arg0 : S32768x1024.Idx → EReal) (funext fun x => Fin.ext ?_)).trans (congrFun (V_main_arg0 m c) _)
  refine (Pipeline.Window.rect_emb_val (cfg0.win 0) t _ x).trans ?_
  have hi : (cfg0.win 0).index t = ![t.val, 0] := index0_val t
  rw [hi]
  fin_cases x
  · rfl
  · show 0 * 1024 + k.val = k.val; omega

theorem matrix_apply (c : Dev nD) (t : Fin cfg0.N) (k : Fin 1024) (j : Fin 3200) :
    iblk m c 1 t (ix2 k j)
      = pad S1024x3200 ![0, 0] ![0, 120] ![0, 0] (wW m c) (sitofp (F := Ideal) .f32 (constantI S_ 32 0#32)) pads_S1024x3080_S1024x3200_000_01200 h_S_ (ix2 k j) := by
  refine (congrArg (V m c main_v1 : S1024x3200.Idx → EReal) (funext fun x => Fin.ext ?_)).trans (congrFun (V_w m c) _)
  refine (Pipeline.Window.rect_emb_val (cfg0.win 1) t _ x).trans ?_
  have hi : (cfg0.win 1).index t = ![0, 0] := index1_val t
  rw [hi]
  fin_cases x
  · show 0 * 1024 + k.val = k.val; omega
  · show 0 * 3200 + j.val = j.val; omega

/-- What a block writes: the product of its two reads. -/
theorem out_eq (x : Vec Ideal S512x1024 .f32) (w : Vec Ideal S1024x3200 .bf16) : out0_2 x w = k0_pay1 x w := by
  have hz : ∀ {n : ℕ}, (![0, 0] : Fin 2 → ℕ) = fun _ => 0 := fun {_} => funext fun a => by fin_cases a <;> rfl
  unfold out0_2
  rw [View.canon_unit_zero (hz (n := 0)), View.ld_unit_zero (S := S512x1024) (hz (n := 0)), View.ld_unit_zero (S := S1024x3200) (hz (n := 0))]

theorem block_apply (c : Dev nD) (t : Fin cfg0.N) (h : t.val < 64) (r : Fin 512) (j : Fin 3200) :
    out0_2 (iblk m c 0 t) (iblk m c 1 t) (ix2 r j) = expected m c (ix2 (⟨t.val * 512 + r.val, by omega⟩ : Fin 32768) j) := by
  rw [out_eq]
  unfold k0_pay1
  refine (Experts.product _ _ r j).trans ?_
  show _ = projected (xW m c) (wW m c) (⟨t.val * 512 + r.val, by omega⟩ : Fin 32768) j
  have hs : ∀ k : Fin 1024, (shapeCast S1024x3200 (iblk m c 1 t : S1024x3200.Idx → EReal) shapeCasts_S1024x3200_S1024x3200 (ix2 k j) : EReal)
      = iblk m c 1 t (ix2 k j) := fun k => congrFun (shapeCast_self _ _) _
  unfold projected
  by_cases hj : j.val < 3080
  · rw [dif_pos hj]
    refine Finset.sum_congr rfl fun k _ => congrArg₂ (fun a b : EReal => a * b) (rows_apply m c t h r k) ?_
    exact ((hs k).trans (matrix_apply m c t k j)).trans (pad_left _ _ _ _ k j hj)
  · rw [dif_neg hj]
    refine Finset.sum_eq_zero fun k _ => ?_
    refine (congrArg (fun b : EReal => _ * b) (((hs k).trans (matrix_apply m c t k j)).trans ((pad_right _ _ _ _ k j hj).trans (zero_word _)))).trans ?_
    exact mul_zero _

/-! ## The array -/

theorem flush2 (t : Fin cfg0.N) : (cfg0.win 2).flush t = true := by
  have key : ∀ t : Fin grid0.N, Window.flushOf grid0 true cc0_transform_2 t = true := by decide
  exact (Window.flush_eq_flushOf _ t).trans (key t)

theorem emb2 (t : Fin cfg0.N) (h : t.val < 64) (r : Fin 512) (j : Fin 3200) :
    ((cfg0.win 2).blk t).view.emb (ix2 r j) = ix2 (⟨t.val * 512 + r.val, by omega⟩ : Fin 32768) j := by
  refine funext fun a => Fin.ext ?_
  refine (Pipeline.Window.rect_emb_val (cfg0.win 2) t _ a).trans ?_
  have hi : (cfg0.win 2).index t = ![t.val, 0] := index2_val t
  rw [hi]
  fin_cases a
  · rfl
  · show 0 * 3200 + j.val = j.val; omega

theorem result_eq (c : Dev nD) : (dats m 0 c).arrAt 2 cfg0.N = expected m c := by
  refine (dats m 0 c).arrAt_eq_of_emb 2 (expected m c) (fun t _ (y : S512x3200.Idx) => ?_) (fun (i : S32768x3200.Idx) => ?_)
  · have ht : t.val < 64 := t.isLt
    have ey : y = (ix2 (y 0) (y 1) : S512x3200.Idx) := funext fun a => by fin_cases a <;> rfl
    have hv : (dats m 0 c).flushed 2 t y = out0_2 (iblk m c 0 t) (iblk m c 1 t) (ix2 (y 0) (y 1)) :=
      (congrFun (Cert.Kernel3Ideal.Value.flushed2 m c t) y).trans (congrArg (out0_2 (iblk m c 0 t) (iblk m c 1 t)) ey)
    have he : ((cfg0.win 2).blk t).view.emb y = ix2 (⟨t.val * 512 + (y 0).val, by have := (y 0).isLt; change (y 0).val < 512 at this; omega⟩ : Fin 32768) (y 1) :=
      (congrArg ((cfg0.win 2).blk t).view.emb ey).trans (emb2 t ht (y 0) (y 1))
    exact (hv.trans (block_apply m c t ht (y 0) (y 1))).trans (congrArg (expected m c) he.symm)
  · have h0 : (i 0).val < 32768 := (i 0).isLt
    have h1 : (i 1).val < 3200 := (i 1).isLt
    have ht : (i 0).val / 512 < 64 := by omega
    let t : Fin cfg0.N := ⟨(i 0).val / 512, ht⟩
    have e : (ix2 (⟨t.val * 512 + (i 0).val % 512, by show (i 0).val / 512 * 512 + (i 0).val % 512 < 32768; omega⟩ : Fin 32768) (⟨(i 1).val, h1⟩ : Fin 3200) : S32768x3200.Idx) = i := by
      refine funext fun a => Fin.ext ?_
      fin_cases a
      · show (i 0).val / 512 * 512 + (i 0).val % 512 = (i 0).val; omega
      · rfl
    have hm : ((cfg0.win 2).blk t).view.emb (ix2 (⟨(i 0).val % 512, by omega⟩ : Fin 512) (⟨(i 1).val, h1⟩ : Fin 3200))
        ∈ ((cfg0.win 2).blk t).view.set := View.emb_mem_set _ _
    have hm' := (emb2 t ht ⟨(i 0).val % 512, by omega⟩ ⟨(i 1).val, h1⟩).trans e
    exact ⟨t, flush2 t, (congrArg (fun x => x ∈ ((cfg0.win 2).blk t).view.set) hm').mp hm⟩

/-! ## The reference -/

theorem reference_eq (x : FVec Ideal S32768x1024 .f32) (w : FVec Ideal S1024x3080 .f32) (i : S32768x3200.Idx) :
    (pad Cert.Reference3Ideal.S32768x3200 ![0, 0] ![0, 120] ![0, 0]
        (Host.dotGeneral (F := Ideal) Cert.Reference3Ideal.dot_S32768x1024_S1024x3080_S32768x3080_1_0_0_1_n_n none x w)
        (sitofp (F := Ideal) .f32 (constantI Cert.Reference3Ideal.S_ 32 0#32)) Cert.Reference3Ideal.Gen.pads_S32768x3080_S32768x3200_000_01200 Cert.Reference3Ideal.Gen.h_S_ i : EReal)
      = projected x w (i 0) (i 1) := by
  have ei : i = (ix2 (i 0) (i 1) : S32768x3200.Idx) := funext fun a => by fin_cases a <;> rfl
  refine (congrArg _ ei).trans ?_
  unfold projected
  by_cases hj : (i 1).val < 3080
  · rw [dif_pos hj]
    exact (pad_left _ _ _ _ (i 0) (i 1) hj).trans (StackMember.dotGeneral_plain_apply none x w (i 0) ⟨(i 1).val, hj⟩)
  · rw [dif_neg hj]
    exact (pad_right _ _ _ _ (i 0) (i 1) hj).trans (zero_word _)

end Cert.Proof.InProj

end
-- ==== Proof.Dense.Spec.lean ====
/-
  The mathematics of the dense feed-forward, over the extended reals: a row's SwiGLU over 2816 hidden units, its scaled
  residual, and the layer norm of the sum.
-/
module

public import proofs.«01_k».proof.Proof.Experts.Spec

@[expose] public section

noncomputable section

namespace Cert.Proof.Dense

open Cert.Proof.Experts

open Idealize.ShloMosaic Idealize.ShloMosaic.ValueIdx
open scoped BigOperators

/-- The SwiGLU of a row, at column `j`. -/
def ffn (x : Fin 1024 → EReal) (g u : Fin 1024 → Fin 2816 → EReal) (d : Fin 2816 → Fin 1024 → EReal) (j : Fin 1024) : EReal :=
  ∑ f, hidden x (fun k => g k f) (fun k => u k f) * d f j

/-- Hidden unit `y` of chunk `k`. -/
def unitAt (k : Fin 11) (y : Fin 256) : Fin 2816 := ⟨256 * k.val + y.val, by omega⟩

theorem ffn_chunks (x : Fin 1024 → EReal) (g u : Fin 1024 → Fin 2816 → EReal) (d : Fin 2816 → Fin 1024 → EReal) (j : Fin 1024) :
    ffn x g u d j = ∑ k : Fin 11, ∑ y : Fin 256,
      hidden x (fun c => g c (unitAt k y)) (fun c => u c (unitAt k y)) * d (unitAt k y) j :=
  sum_units (n := 11) rfl _

/-- The mean of a row, its 1024 the programs' literal. -/
def mean (y : Fin 1024 → EReal) : EReal := Ideal.div (∑ k, y k) (Ideal.ofBits .f32 0x44800000#32)

/-- The layer norm of a row, at column `j`. -/
def norm (y g b : Fin 1024 → EReal) (j : Fin 1024) : EReal :=
  (y j - mean y) * Ideal.rsqrt (mean (fun k => (y k - mean y) * (y k - mean y)) + Ideal.ofBits .f32 0x3727C5AC#32) * g j + b j

/-- The result at row `r`, column `j`. -/
def denseOut (x : (⟨2, ![32768, 1024]⟩ : Shape).Idx → EReal) (g u : (⟨2, ![1024, 2816]⟩ : Shape).Idx → EReal)
    (d : (⟨2, ![2816, 1024]⟩ : Shape).Idx → EReal) (lg lb : (⟨1, ![1024]⟩ : Shape).Idx → EReal) (r : Fin 32768) (j : Fin 1024) : EReal :=
  norm (fun k => Ideal.ofBits .f32 0x3FB504F3#32 * x (ix2 r k)
      + ffn (fun c => x (ix2 r c)) (fun c f => g (ix2 c f)) (fun c f => u (ix2 c f)) (fun f c => d (ix2 f c)) k)
    (fun k => lg (ix1 k)) (fun k => lb (ix1 k)) j

end Cert.Proof.Dense

end
-- ==== Proof.Dense.KernelNorm.lean ====
/-
  The layer norm of a block of `n` rows of 1024 as the kernels compute it, over the extended reals, index by index: `norm`
  of the row.
-/
module

public import proofs.«01_k».proof.Proof.Dense.Spec
public import Idealize.ShloMosaic.PureOps
public import Idealize.ShloMosaic.Lib.Pipeline.Value
public import Idealize.ShloMosaic.Lib.Pointwise.Reduce

@[expose] public section

noncomputable section

namespace Cert.Proof.Dense

open Idealize.ShloMosaic
open scoped BigOperators

/-- A row of 1024 with a leading axis. -/
theorem lifted {α : Type} (h : (⟨1, ![1024]⟩ : Shape).ShapeCasts ⟨2, ![1, 1024]⟩) (v : (⟨1, ![1024]⟩ : Shape).Idx → α) (j : Fin 1024) :
    shapeCast ⟨2, ![1, 1024]⟩ v h (ix2 (0 : Fin 1) j) = v (ix1 j) :=
  congrArg v (Shape.reshapeEquiv_eq_of_rowMajor _ (by
    rw [Shape.rowMajor_val_one, Shape.rowMajor_val_two]
    show j.val = 0 * 1024 + j.val; omega))

variable {n : ℕ}

/-- `n` rows, -/
abbrev Rows (n : ℕ) : Shape := ⟨2, ![n, 1024]⟩
/-- a value of each, and these as a column. -/
abbrev PerRow (n : ℕ) : Shape := ⟨1, ![n]⟩
abbrev Col (n : ℕ) : Shape := ⟨2, ![n, 1]⟩

variable (hr : (Rows n).Reduces [1] (PerRow n)) (hc : (PerRow n).ShapeCasts (Col n)) (hs : (Col n).Broadcasts (Rows n))
  (hw : (⟨2, ![1, 1024]⟩ : Shape).Broadcasts (Rows n))

/-- A column of row values over the columns. -/
theorem spread {α : Type} (v : (Col n).Idx → α) (r : Fin n) (j : Fin 1024) : broadcastTo (Rows n) v hs (ix2 r j) = v (ix2 r (0 : Fin 1)) := by
  refine broadcastTo_apply v hs (ix2 r j) (ix2 r (0 : Fin 1)) fun a => ?_
  fin_cases a
  · show r.val = if n = 1 then 0 else r.val
    have := r.isLt
    split <;> omega
  · rfl

/-- A row over the rows. -/
theorem repeated {α : Type} (v : (⟨2, ![1, 1024]⟩ : Shape).Idx → α) (r : Fin n) (j : Fin 1024) :
    broadcastTo (Rows n) v hw (ix2 r j) = v (ix2 (0 : Fin 1) j) :=
  congrArg v (funext fun a => Fin.ext (by fin_cases a <;> rfl))

theorem column {α : Type} (v : (PerRow n).Idx → α) (r : Fin n) : shapeCast (Col n) v hc (ix2 r (0 : Fin 1)) = v (ix1 r) :=
  congrArg v (Shape.reshapeEquiv_eq_of_rowMajor _ (by
    rw [Shape.rowMajor_val_one, Shape.rowMajor_val_two]
    show r.val = r.val * 1 + 0; omega))

/-- The means of the rows. -/
abbrev means (Y : FVec Ideal (Rows n) .f32) : FVec Ideal (Col n) .f32 :=
  divf (shapeCast (Col n) (multiReduction .add [1] (PerRow n) Y 0x00000000#32 hr (.inl rfl) rfl) hc) (broadcast (Col n) (Scalar.ofBits .f32 0x44800000#32))

theorem means_apply (Y : FVec Ideal (Rows n) .f32) (r : Fin n) : means hr hc Y (ix2 r (0 : Fin 1)) = mean fun k => Y (ix2 r k) := by
  unfold mean
  refine congrArg (fun z : EReal => Ideal.div z _) ((column hc _ r).trans ?_)
  exact Ideal.reduceAdd_r2_a1 hr Y (ix1 r)

/-- The rows less their means. -/
abbrev centred (Y : FVec Ideal (Rows n) .f32) : FVec Ideal (Rows n) .f32 := subf Y (broadcastTo (Rows n) (means hr hc Y) hs)

theorem centred_apply (Y : FVec Ideal (Rows n) .f32) (r : Fin n) (k : Fin 1024) :
    (centred hr hc hs Y (ix2 r k) : EReal) = Y (ix2 r k) - mean fun k => Y (ix2 r k) :=
  congrArg (fun z : EReal => Y (ix2 r k) - z) ((spread hs _ r k).trans (means_apply hr hc Y r))

/-- The layer norm of the rows. -/
abbrev normed (Y : FVec Ideal (Rows n) .f32) (g b : FVec Ideal ⟨2, ![1, 1024]⟩ .f32) : FVec Ideal (Rows n) .f32 :=
  addf (mulf (mulf (centred hr hc hs Y) (broadcastTo (Rows n) (rsqrt (addf (means hr hc (mulf (centred hr hc hs Y) (centred hr hc hs Y)))
    (broadcast (Col n) (Scalar.ofBits .f32 0x3727C5AC#32)))) hs)) (broadcastTo (Rows n) g hw)) (broadcastTo (Rows n) b hw)

theorem normed_apply (Y : FVec Ideal (Rows n) .f32) (g b : FVec Ideal ⟨2, ![1, 1024]⟩ .f32) (r : Fin n) (j : Fin 1024) :
    normed hr hc hs hw Y g b (ix2 r j) = norm (fun k => Y (ix2 r k)) (fun k => g (ix2 (0 : Fin 1) k)) (fun k => b (ix2 (0 : Fin 1) k)) j := by
  unfold norm
  refine congrArg₂ (fun x y : EReal => x + y) (congrArg₂ (fun x y : EReal => x * y) (congrArg₂ (fun x y : EReal => x * y) (centred_apply hr hc hs Y r j) ?_)
    (repeated hw g r j)) (repeated hw b r j)
  refine (spread hs _ r j).trans (congrArg (fun z : EReal => Ideal.rsqrt (z + _)) ((means_apply hr hc _ r).trans (congrArg mean (funext fun k => ?_))))
  exact congrArg₂ (fun x y : EReal => x * y) (centred_apply hr hc hs Y r k) (centred_apply hr hc hs Y r k)

end Cert.Proof.Dense

end
-- ==== Proof.Dense.RefValue.lean ====
/-
  The reference of the dense feed-forward, over the extended reals, index by index: `denseOut` of its arguments.
-/
module

public import proofs.«01_k».proof.Proof.Dense.Spec
public import proofs.«01_k».proof.Proof.Gen.Reference2Ideal.Run
public import Idealize.ShloMosaic.Lib.StackMember
public import Idealize.ShloMosaic.Lib.ValueLayout
public import Idealize.ShloMosaic.Lib.Pointwise.Reduce

@[expose] public section

noncomputable section

namespace Cert.Proof.Dense.Reference

open Cert.Reference2Ideal Cert.Reference2Ideal.Gen Cert.Reference2Ideal.Value
open Cert.Proof.Experts (silu)

open Idealize.ShloMosaic Idealize.ShloMosaic.TcCoe
open scoped BigOperators

/-- Rows times a matrix. -/
abbrev times (X : FVec Ideal S32768x1024 .f32) (W : FVec Ideal S1024x2816 .f32) : FVec Ideal S32768x2816 .f32 :=
  Host.dotGeneral (F := Ideal) dot_S32768x1024_S1024x2816_S32768x2816_1_0_0_1_n_n none X W

/-- The hidden units of every row. -/
abbrev units (G U : FVec Ideal S32768x2816 .f32) : FVec Ideal S32768x2816 .f32 :=
  mulf (mulf G (Host.divf (broadcastInDim S32768x2816 ![] bcast_S_S32768x2816 (constant S_ .f32 0x3F800000#32))
    (addf (broadcastInDim S32768x2816 ![] bcast_S_S32768x2816 (constant S_ .f32 0x3F800000#32)) (Host.exp (Host.negf G))))) U

/-- The rows the norm is taken of. -/
abbrev rows (X : FVec Ideal S32768x1024 .f32) (g u : FVec Ideal S1024x2816 .f32) (d : FVec Ideal S2816x1024 .f32) : FVec Ideal S32768x1024 .f32 :=
  addf (mulf (broadcastInDim S32768x1024 ![] bcast_S_S32768x1024 (constant S_ .f32 0x3FB504F3#32)) X)
    (Host.dotGeneral (F := Ideal) dot_S32768x2816_S2816x1024_S32768x1024_1_0_0_1_n_n none (units (times X g) (times X u)) d)

theorem times_apply (X : FVec Ideal S32768x1024 .f32) (W : FVec Ideal S1024x2816 .f32) (r : Fin 32768) (f : Fin 2816) :
    times X W (ix2 r f) = ∑ k : Fin 1024, (X (ix2 r k) : EReal) * W (ix2 k f) :=
  StackMember.dotGeneral_plain_apply none X W r f

theorem units_apply (X : FVec Ideal S32768x1024 .f32) (g u : FVec Ideal S1024x2816 .f32) (r : Fin 32768) (f : Fin 2816) :
    units (times X g) (times X u) (ix2 r f) = Experts.hidden (fun k => X (ix2 r k)) (fun k => g (ix2 k f)) (fun k => u (ix2 k f)) := by
  unfold Experts.hidden silu
  rw [← times_apply X g r f, ← times_apply X u r f]
  rfl

theorem rows_apply (X : FVec Ideal S32768x1024 .f32) (g u : FVec Ideal S1024x2816 .f32) (d : FVec Ideal S2816x1024 .f32) (r : Fin 32768) (j : Fin 1024) :
    (rows X g u d (ix2 r j) : EReal) = Ideal.ofBits .f32 0x3FB504F3#32 * X (ix2 r j)
      + ffn (fun k => X (ix2 r k)) (fun k f => g (ix2 k f)) (fun k f => u (ix2 k f)) (fun f j => d (ix2 f j)) j := by
  refine congrArg (fun z : EReal => _ + z) ((StackMember.dotGeneral_plain_apply none _ _ r j).trans (Finset.sum_congr rfl fun f _ => ?_))
  exact congrArg (fun z : EReal => z * _) (units_apply X g u r f)

/-! ## The layer norm -/

/-- Row values as a column. -/
abbrev column (v : FVec Ideal S32768 .f32) : FVec Ideal S32768x1 .f32 := broadcastInDim S32768x1 ![0] bcast_S32768_S32768x1_0 v

/-- A column over the columns. -/
abbrev spread (v : FVec Ideal S32768x1 .f32) : FVec Ideal S32768x1024 .f32 := broadcastInDim S32768x1024 ![0, 1] bcast_S32768x1_S32768x1024_0_1 v

/-- A row over the rows. -/
abbrev repeated (v : FVec Ideal S1024 .f32) : FVec Ideal S32768x1024 .f32 :=
  broadcastInDim S32768x1024 ![0, 1] bcast_S1x1024_S32768x1024_0_1 (broadcastInDim S1x1024 ![1] bcast_S1024_S1x1024_1 v)

theorem column_apply (v : FVec Ideal S32768 .f32) (r : Fin 32768) : column v (ix2 r (0 : Fin 1)) = v (ix1 r) :=
  congrArg v (funext fun a => Fin.ext (by fin_cases a; rfl))

theorem spread_apply (v : FVec Ideal S32768x1 .f32) (r : Fin 32768) (j : Fin 1024) : spread v (ix2 r j) = v (ix2 r (0 : Fin 1)) :=
  congrArg v (funext fun a => Fin.ext (by fin_cases a <;> rfl))

theorem repeated_apply (v : FVec Ideal S1024 .f32) (r : Fin 32768) (j : Fin 1024) : repeated v (ix2 r j) = v (ix1 j) :=
  congrArg v (funext fun a => Fin.ext (by fin_cases a; rfl))

/-- The means of the rows. -/
abbrev means (Y : FVec Ideal S32768x1024 .f32) : FVec Ideal S32768x1 .f32 :=
  Host.divf (column (Host.reduceAdd Y (constant S_ .f32 0x00000000#32) reducesTo_S32768x1024_S32768_d1 h_S_))
    (broadcastInDim S32768x1 ![] bcast_S_S32768x1 (constant S_ .f32 0x44800000#32))

theorem means_apply (Y : FVec Ideal S32768x1024 .f32) (r : Fin 32768) : means Y (ix2 r (0 : Fin 1)) = mean fun k => Y (ix2 r k) := by
  unfold mean
  refine congrArg (fun z : EReal => Ideal.div z _) ((column_apply _ r).trans ?_)
  refine (Ideal.hostReduceAdd_r2_a1 reducesTo_S32768x1024_S32768_d1 Y _ (ix1 r)).trans ?_
  refine (congrArg (fun z : EReal => z + _) Ideal.ofBits_zero_f32).trans ?_
  exact zero_add _

/-- The rows less their means. -/
abbrev centred (Y : FVec Ideal S32768x1024 .f32) : FVec Ideal S32768x1024 .f32 := subf Y (spread (means Y))

theorem centred_apply (Y : FVec Ideal S32768x1024 .f32) (r : Fin 32768) (k : Fin 1024) :
    (centred Y (ix2 r k) : EReal) = Y (ix2 r k) - mean fun k => Y (ix2 r k) :=
  congrArg (fun z : EReal => Y (ix2 r k) - z) ((spread_apply _ r k).trans (means_apply Y r))

/-- The layer norm of the rows. -/
abbrev normed (Y : FVec Ideal S32768x1024 .f32) (g b : FVec Ideal S1024 .f32) : FVec Ideal S32768x1024 .f32 :=
  addf (mulf (mulf (centred Y) (spread (Host.rsqrt (addf (means (mulf (centred Y) (centred Y)))
    (broadcastInDim S32768x1 ![] bcast_S_S32768x1 (constant S_ .f32 0x3727C5AC#32)))))) (repeated g)) (repeated b)

theorem normed_apply (Y : FVec Ideal S32768x1024 .f32) (g b : FVec Ideal S1024 .f32) (r : Fin 32768) (j : Fin 1024) :
    normed Y g b (ix2 r j) = norm (fun k => Y (ix2 r k)) (fun k => g (ix1 k)) (fun k => b (ix1 k)) j := by
  unfold norm
  refine congrArg₂ (fun x y : EReal => x + y) (congrArg₂ (fun x y : EReal => x * y) (congrArg₂ (fun x y : EReal => x * y) (centred_apply Y r j) ?_) (repeated_apply g r j)) (repeated_apply b r j)
  refine (spread_apply _ r j).trans (congrArg (fun z : EReal => Ideal.rsqrt (z + _)) ((means_apply _ r).trans (congrArg mean (funext fun k => ?_))))
  exact congrArg₂ (fun x y : EReal => x * y) (centred_apply Y r k) (centred_apply Y r k)

/-- The reference's result at an index. -/
theorem reference_apply (X : FVec Ideal S32768x1024 .f32) (g u : FVec Ideal S1024x2816 .f32) (d : FVec Ideal S2816x1024 .f32) (lg lb : FVec Ideal S1024 .f32)
    (r : Fin 32768) (j : Fin 1024) : normed (rows X g u d) lg lb (ix2 r j) = denseOut X g u d lg lb r j := by
  refine (normed_apply _ lg lb r j).trans ?_
  unfold denseOut
  exact congrArg (fun y => norm y _ _ j) (funext fun k => rows_apply X g u d r k)

theorem reference_eq (m : (ℓ : Loc nD τ sig) → Buf (Elt Ideal) ℓ) (c : Dev nD) :
    res_main_v31 m c = fun i : S32768x1024.Idx => denseOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (i 0) (i 1) := by
  have h : res_main_v31 m c = normed (rows (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4))
      (m ((c.tc : Thread nD τ).loc main_arg5)) := rfl
  refine h.trans (funext fun i => ?_)
  have e : i = (ix2 (i 0) (i 1) : S32768x1024.Idx) := funext fun a => by fin_cases a <;> rfl
  exact (congrArg (normed _ _ _) e).trans (reference_apply _ _ _ _ _ _ (i 0) (i 1))

end Cert.Proof.Dense.Reference

end
-- ==== Proof.OutProj.Value.lean ====
/-
  The output projection of the two mixers with its residual and post-norm, over the extended reals, index by index
  (`projOut`). The kernel multiplies the two halves of the columns apart; the reference joins them and multiplies.
-/
module

public import proofs.«01_k».proof.Proof.Experts.ChunkValue
public import proofs.«01_k».proof.Proof.Dense.KernelNorm
public import proofs.«01_k».proof.Proof.Dense.RefValue
public import proofs.«01_k».proof.Proof.Gen.Kernel4Ideal.Value
public import proofs.«01_k».proof.Proof.Gen.Reference4Ideal.Run
public import Idealize.ShloMosaic.Lib.Pipeline.ValueKit.Geometry

@[expose] public section

noncomputable section

namespace Cert.Proof.OutProj

open Cert.Kernel4Ideal Cert.Kernel4Ideal.Gen
open Cert.Proof.Dense (norm normed normed_apply lifted)
open Cert.Proof.Experts (product)

open Idealize.ShloMosaic Idealize.ShloMosaic.TcCoe
open Idealize.ShloMosaic.Pipeline (Dat Cfg Window)
open scoped BigOperators

/-- The two mixers' rows times the two halves of the matrix. -/
def mixed (yc yd : Fin 512 → EReal) (w : Fin 1024 → Fin 1024 → EReal) (j : Fin 1024) : EReal :=
  (∑ k : Fin 512, yc k * w (Fin.castAdd 512 k) j) + ∑ k : Fin 512, yd k * w (Fin.natAdd 512 k) j

/-- The result at row `r`, column `j`. -/
def projOut (x : S32768x1024.Idx → EReal) (yc yd : S32768x512.Idx → EReal) (w : S1024x1024.Idx → EReal) (lg lb : S1024.Idx → EReal)
    (r : Fin 32768) (j : Fin 1024) : EReal :=
  norm (fun k => Ideal.ofBits .f32 0x3FB504F3#32 * x (ix2 r k) + mixed (fun a => yc (ix2 r a)) (fun a => yd (ix2 r a)) (fun a b => w (ix2 a b)) k)
    (fun k => lg (ix1 k)) (fun k => lb (ix1 k)) j

/-! ## The block -/

/-- The first and the last 512 rows of the matrix. -/
abbrev upper (w : Vec Ideal S1024x1024 .bf16) : Vec Ideal S512x1024 .bf16 := View.ld w r0_1
abbrev lower (w : Vec Ideal S1024x1024 .bf16) : Vec Ideal S512x1024 .bf16 := View.ld w r0_2

theorem upper_apply (w : Vec Ideal S1024x1024 .bf16) (k : Fin 512) (j : Fin 1024) : upper w (ix2 k j) = w (ix2 (Fin.castAdd 512 k : Fin 1024) j) := by
  refine congrArg w (funext fun a => Fin.ext ?_)
  fin_cases a
  · show 0 + 1 * k.val = k.val; omega
  · show 0 + 1 * j.val = j.val; omega

theorem lower_apply (w : Vec Ideal S1024x1024 .bf16) (k : Fin 512) (j : Fin 1024) : lower w (ix2 k j) = w (ix2 (Fin.natAdd 512 k : Fin 1024) j) := by
  refine congrArg w (funext fun a => Fin.ext ?_)
  fin_cases a
  · show 512 + 1 * k.val = 512 + k.val; omega
  · show 0 + 1 * j.val = j.val; omega

/-- What a block writes. -/
theorem out_eq (x : Vec Ideal S512x1024 .f32) (yc yd : Vec Ideal S512x512 .bf16) (w : Vec Ideal S1024x1024 .bf16) (lg lb : Vec Ideal S1x1024 .f32) :
    out0_6 x yc yd w lg lb = k0_pay1 yc (upper w) yd (lower w) x lg lb := by
  have hz : (![0, 0] : Fin 2 → ℕ) = fun _ => 0 := funext fun a => by fin_cases a <;> rfl
  unfold out0_6
  rw [View.canon_unit_zero hz, View.ld_unit_zero (S := S512x512) hz, View.ld_unit_zero (S := S512x512) hz, View.ld_unit_zero (S := S512x1024) hz,
    View.ld_unit_zero (S := S1x1024) hz, View.ld_unit_zero (S := S1x1024) hz]

/-- The rows the norm is taken of. -/
abbrev blockRows (x : Vec Ideal S512x1024 .f32) (yc yd : Vec Ideal S512x512 .bf16) (w : Vec Ideal S1024x1024 .bf16) : FVec Ideal S512x1024 .f32 :=
  addf (mulf (broadcast S512x1024 (Scalar.ofBits .f32 0x3FB504F3#32)) x)
    (addf (matmul (F := Ideal) (φ₁ := .bf16) (φ₂ := .bf16) dot_S512x512_S512x1024_S512x1024_1_0_0_1_n_n none yc (upper w) (constant S512x1024 .f32 0x00000000#32))
      (matmul (F := Ideal) (φ₁ := .bf16) (φ₂ := .bf16) dot_S512x512_S512x1024_S512x1024_1_0_0_1_n_n none yd (lower w) (constant S512x1024 .f32 0x00000000#32)))

theorem blockRows_apply (x : Vec Ideal S512x1024 .f32) (yc yd : Vec Ideal S512x512 .bf16) (w : Vec Ideal S1024x1024 .bf16) (r : Fin 512) (j : Fin 1024) :
    (blockRows x yc yd w (ix2 r j) : EReal) = Ideal.ofBits .f32 0x3FB504F3#32 * x (ix2 r j)
      + mixed (fun a => yc (ix2 r a)) (fun a => yd (ix2 r a)) (fun a b => w (ix2 a b)) j := by
  refine congrArg (fun z : EReal => _ + z) (congrArg₂ (fun a b : EReal => a + b) ((product _ _ r j).trans ?_) ((product _ _ r j).trans ?_))
  · exact Finset.sum_congr rfl fun k _ => congrArg (fun z : EReal => _ * z) (upper_apply w k j)
  · exact Finset.sum_congr rfl fun k _ => congrArg (fun z : EReal => _ * z) (lower_apply w k j)

theorem out_apply (x : Vec Ideal S512x1024 .f32) (yc yd : Vec Ideal S512x512 .bf16) (w : Vec Ideal S1024x1024 .bf16) (lg lb : Vec Ideal S1x1024 .f32)
    (r : Fin 512) (j : Fin 1024) :
    out0_6 x yc yd w lg lb (ix2 r j) = norm (fun k => Ideal.ofBits .f32 0x3FB504F3#32 * x (ix2 r k)
      + mixed (fun a => yc (ix2 r a)) (fun a => yd (ix2 r a)) (fun a b => w (ix2 a b)) k) (fun k => lg (ix2 (0 : Fin 1) k)) (fun k => lb (ix2 (0 : Fin 1) k)) j := by
  have h : out0_6 x yc yd w lg lb = normed reduces_S512x1024_S512 shapeCasts_S512_S512x1 broadcasts_S512x1_S512x1024 broadcasts_S1x1024_S512x1024
      (blockRows x yc yd w) lg lb := by
    rw [out_eq]
    unfold k0_pay1
    dsimp only
    simp only [shapeCast_self]
  rw [h]
  refine (normed_apply _ _ _ _ _ _ _ r j).trans ?_
  exact congrArg (fun y => norm y _ _ j) (funext fun k => blockRows_apply x yc yd w r k)

/-- A block's result at a row, when its operands are blocks of the arrays: rows `R` of the first three, the whole of the others. -/
theorem out_projOut (X : S32768x1024.Idx → EReal) (Yc Yd : S32768x512.Idx → EReal) (W : S1024x1024.Idx → EReal) (Lg Lb : S1024.Idx → EReal)
    (x : Vec Ideal S512x1024 .f32) (yc yd : Vec Ideal S512x512 .bf16) (w : Vec Ideal S1024x1024 .bf16) (lg lb : Vec Ideal S1x1024 .f32)
    (r : Fin 512) (R : Fin 32768) (j : Fin 1024) (h0 : ∀ k, x (ix2 r k) = X (ix2 R k)) (h1 : ∀ k, yc (ix2 r k) = Yc (ix2 R k)) (h2 : ∀ k, yd (ix2 r k) = Yd (ix2 R k))
    (h3 : ∀ a b, w (ix2 a b) = W (ix2 a b)) (h4 : ∀ k, lg (ix2 (0 : Fin 1) k) = Lg (ix1 k)) (h5 : ∀ k, lb (ix2 (0 : Fin 1) k) = Lb (ix1 k)) :
    out0_6 x yc yd w lg lb (ix2 r j) = projOut X Yc Yd W Lg Lb R j := by
  refine (out_apply _ _ _ _ _ _ r j).trans ?_
  unfold projOut
  refine (congrArg (fun y => norm y _ _ j) (funext fun k => ?_)).trans (congrArg₂ (fun g b => norm _ g b j) (funext h4) (funext h5))
  refine congrArg₂ (fun x y : EReal => x + y) (congrArg (fun z : EReal => _ * z) (h0 k)) ?_
  exact (congrArg₂ (fun p q => mixed p q _ k) (funext h1) (funext h2)).trans (congrArg (fun w => mixed _ _ w k) (funext fun a => funext (h3 a)))

/-! ## The blocks -/

variable (m : (ℓ : Loc nD τ sig) → Buf (Elt Ideal) ℓ)

abbrev xW (c : Dev nD) : S32768x1024.Idx → EReal := m ((c : Thread nD τ).loc main_arg0)
abbrev ycW (c : Dev nD) : S32768x512.Idx → EReal := m ((c : Thread nD τ).loc main_arg1)
abbrev ydW (c : Dev nD) : S32768x512.Idx → EReal := m ((c : Thread nD τ).loc main_arg2)
abbrev wW (c : Dev nD) : S1024x1024.Idx → EReal := m ((c : Thread nD τ).loc main_arg3)
abbrev lgW (c : Dev nD) : S1024.Idx → EReal := m ((c : Thread nD τ).loc main_arg4)
abbrev lbW (c : Dev nD) : S1024.Idx → EReal := m ((c : Thread nD τ).loc main_arg5)

/-- The conversion before the region changes nothing over the extended reals; the two rows gain an axis. -/
theorem V_w (c : Dev nD) : (V m c main_v0 : S1024x1024.Idx → EReal) = wW m c := by rfl
theorem V_lg (c : Dev nD) : (V m c main_v1 : S1x1024.Idx → EReal) = shapeCast S1x1024 (lgW m c) shapeCasts_S1024_S1x1024 := by rfl
theorem V_lb (c : Dev nD) : (V m c main_v2 : S1x1024.Idx → EReal) = shapeCast S1x1024 (lbW m c) shapeCasts_S1024_S1x1024 := by rfl

def expected (c : Dev nD) : S32768x1024.Idx → EReal := fun i => projOut (xW m c) (ycW m c) (ydW m c) (wW m c) (lgW m c) (lbW m c) (i 0) (i 1)

theorem index0_val (t : Fin grid0.N) : cc0_transform_0 (grid0.coords t) = ![t.val, 0] := by revert t; decide
theorem index1_val (t : Fin grid0.N) : cc0_transform_1 (grid0.coords t) = ![t.val, 0] := by revert t; decide
theorem index2_val (t : Fin grid0.N) : cc0_transform_2 (grid0.coords t) = ![t.val, 0] := by revert t; decide
theorem index3_val (t : Fin grid0.N) : cc0_transform_3 (grid0.coords t) = ![0, 0] := by revert t; decide
theorem index4_val (t : Fin grid0.N) : cc0_transform_4 (grid0.coords t) = ![0, 0] := by revert t; decide
theorem index5_val (t : Fin grid0.N) : cc0_transform_5 (grid0.coords t) = ![0, 0] := by revert t; decide
theorem index6_val (t : Fin grid0.N) : cc0_transform_6 (grid0.coords t) = ![t.val, 0] := by revert t; decide

theorem block0 (c : Dev nD) (t : Fin cfg0.N) (h : t.val < 64) (r : Fin 512) (k : Fin 1024) :
    iblk m c 0 t (ix2 r k) = xW m c (ix2 (⟨t.val * 512 + r.val, by omega⟩ : Fin 32768) k) := by
  refine (congrArg (V m c main_arg0 : S32768x1024.Idx → EReal) (funext fun x => Fin.ext ?_)).trans (congrFun (V_main_arg0 m c) _)
  refine (Pipeline.Window.rect_emb_val (cfg0.win 0) t _ x).trans ?_
  have hi : (cfg0.win 0).index t = ![t.val, 0] := index0_val t
  rw [hi]
  fin_cases x
  · rfl
  · show 0 * 1024 + k.val = k.val; omega

theorem block1 (c : Dev nD) (t : Fin cfg0.N) (h : t.val < 64) (r : Fin 512) (k : Fin 512) :
    iblk m c 1 t (ix2 r k) = ycW m c (ix2 (⟨t.val * 512 + r.val, by omega⟩ : Fin 32768) k) := by
  refine (congrArg (V m c main_arg1 : S32768x512.Idx → EReal) (funext fun x => Fin.ext ?_)).trans (congrFun (V_main_arg1 m c) _)
  refine (Pipeline.Window.rect_emb_val (cfg0.win 1) t _ x).trans ?_
  have hi : (cfg0.win 1).index t = ![t.val, 0] := index1_val t
  rw [hi]
  fin_cases x
  · rfl
  · show 0 * 512 + k.val = k.val; omega

theorem block2 (c : Dev nD) (t : Fin cfg0.N) (h : t.val < 64) (r : Fin 512) (k : Fin 512) :
    iblk m c 2 t (ix2 r k) = ydW m c (ix2 (⟨t.val * 512 + r.val, by omega⟩ : Fin 32768) k) := by
  refine (congrArg (V m c main_arg2 : S32768x512.Idx → EReal) (funext fun x => Fin.ext ?_)).trans (congrFun (V_main_arg2 m c) _)
  refine (Pipeline.Window.rect_emb_val (cfg0.win 2) t _ x).trans ?_
  have hi : (cfg0.win 2).index t = ![t.val, 0] := index2_val t
  rw [hi]
  fin_cases x
  · rfl
  · show 0 * 512 + k.val = k.val; omega

theorem block3 (c : Dev nD) (t : Fin cfg0.N) (a k : Fin 1024) : iblk m c 3 t (ix2 a k) = wW m c (ix2 a k) := by
  refine (congrArg (V m c main_v0 : S1024x1024.Idx → EReal) (funext fun x => Fin.ext ?_)).trans (congrFun (V_w m c) _)
  refine (Pipeline.Window.rect_emb_val (cfg0.win 3) t _ x).trans ?_
  have hi : (cfg0.win 3).index t = ![0, 0] := index3_val t
  rw [hi]
  fin_cases x
  · show 0 * 1024 + a.val = a.val; omega
  · show 0 * 1024 + k.val = k.val; omega

theorem block4 (c : Dev nD) (t : Fin cfg0.N) (k : Fin 1024) : iblk m c 4 t (ix2 (0 : Fin 1) k) = lgW m c (ix1 k) := by
  refine (congrArg (V m c main_v1 : S1x1024.Idx → EReal) (funext fun x => Fin.ext ?_)).trans ((congrFun (V_lg m c) (ix2 (0 : Fin 1) k)).trans (lifted _ _ k))
  refine (Pipeline.Window.rect_emb_val (cfg0.win 4) t _ x).trans ?_
  have hi : (cfg0.win 4).index t = ![0, 0] := index4_val t
  rw [hi]
  fin_cases x
  · rfl
  · show 0 * 1024 + k.val = k.val; omega

theorem block5 (c : Dev nD) (t : Fin cfg0.N) (k : Fin 1024) : iblk m c 5 t (ix2 (0 : Fin 1) k) = lbW m c (ix1 k) := by
  refine (congrArg (V m c main_v2 : S1x1024.Idx → EReal) (funext fun x => Fin.ext ?_)).trans ((congrFun (V_lb m c) (ix2 (0 : Fin 1) k)).trans (lifted _ _ k))
  refine (Pipeline.Window.rect_emb_val (cfg0.win 5) t _ x).trans ?_
  have hi : (cfg0.win 5).index t = ![0, 0] := index5_val t
  rw [hi]
  fin_cases x
  · rfl
  · show 0 * 1024 + k.val = k.val; omega

theorem written_apply (c : Dev nD) (t : Fin cfg0.N) (h : t.val < 64) (r : Fin 512) (j : Fin 1024) :
    out0_6 (iblk m c 0 t) (iblk m c 1 t) (iblk m c 2 t) (iblk m c 3 t) (iblk m c 4 t) (iblk m c 5 t) (ix2 r j)
      = expected m c (ix2 (⟨t.val * 512 + r.val, by omega⟩ : Fin 32768) j) := by
  exact out_projOut _ _ _ _ _ _ _ _ _ _ _ _ r _ j (block0 m c t h r) (block1 m c t h r) (block2 m c t h r) (block3 m c t) (block4 m c t) (block5 m c t)

/-! ## The array -/

theorem flush6 (t : Fin cfg0.N) : (cfg0.win 6).flush t = true := by
  have key : ∀ t : Fin grid0.N, Window.flushOf grid0 true cc0_transform_6 t = true := by decide
  exact (Window.flush_eq_flushOf _ t).trans (key t)

theorem emb6 (t : Fin cfg0.N) (h : t.val < 64) (r : Fin 512) (j : Fin 1024) :
    ((cfg0.win 6).blk t).view.emb (ix2 r j) = ix2 (⟨t.val * 512 + r.val, by omega⟩ : Fin 32768) j := by
  refine funext fun a => Fin.ext ?_
  refine (Pipeline.Window.rect_emb_val (cfg0.win 6) t _ a).trans ?_
  have hi : (cfg0.win 6).index t = ![t.val, 0] := index6_val t
  rw [hi]
  fin_cases a
  · rfl
  · show 0 * 1024 + j.val = j.val; omega

theorem flushed_eq (c : Dev nD) (t : Fin cfg0.N) (y : S512x1024.Idx) : (dats m 0 c).flushed 6 t y
    = out0_6 (iblk m c 0 t) (iblk m c 1 t) (iblk m c 2 t) (iblk m c 3 t) (iblk m c 4 t) (iblk m c 5 t) y :=
  congrFun (Cert.Kernel4Ideal.Value.flushed6 m c t) y

theorem result_eq (c : Dev nD) : (dats m 0 c).arrAt 6 cfg0.N = expected m c := by
  refine (dats m 0 c).arrAt_eq_of_emb 6 (expected m c) (fun t _ (y : S512x1024.Idx) => ?_) (fun (i : S32768x1024.Idx) => ?_)
  · have ht : t.val < 64 := t.isLt
    have ey : y = (ix2 (y 0) (y 1) : S512x1024.Idx) := funext fun a => by fin_cases a <;> rfl
    have hv : (dats m 0 c).flushed 6 t y = out0_6 (iblk m c 0 t) (iblk m c 1 t) (iblk m c 2 t) (iblk m c 3 t) (iblk m c 4 t) (iblk m c 5 t) (ix2 (y 0) (y 1)) :=
      (flushed_eq m c t y).trans (congrArg (out0_6 _ _ _ _ _ _) ey)
    have he : ((cfg0.win 6).blk t).view.emb y = ix2 (⟨t.val * 512 + (y 0).val, by have := (y 0).isLt; change (y 0).val < 512 at this; omega⟩ : Fin 32768) (y 1) :=
      (congrArg ((cfg0.win 6).blk t).view.emb ey).trans (emb6 t ht (y 0) (y 1))
    exact (hv.trans (written_apply m c t ht (y 0) (y 1))).trans (congrArg (expected m c) he.symm)
  · have h0 : (i 0).val < 32768 := (i 0).isLt
    have h1 : (i 1).val < 1024 := (i 1).isLt
    have ht : (i 0).val / 512 < 64 := by omega
    let t : Fin cfg0.N := ⟨(i 0).val / 512, ht⟩
    have e : (ix2 (⟨t.val * 512 + (i 0).val % 512, by show (i 0).val / 512 * 512 + (i 0).val % 512 < 32768; omega⟩ : Fin 32768) (⟨(i 1).val, h1⟩ : Fin 1024) : S32768x1024.Idx) = i := by
      refine funext fun a => Fin.ext ?_
      fin_cases a
      · show (i 0).val / 512 * 512 + (i 0).val % 512 = (i 0).val; omega
      · rfl
    have hm : ((cfg0.win 6).blk t).view.emb (ix2 (⟨(i 0).val % 512, by omega⟩ : Fin 512) (⟨(i 1).val, h1⟩ : Fin 1024))
        ∈ ((cfg0.win 6).blk t).view.set := View.emb_mem_set _ _
    have hm' := (emb6 t ht ⟨(i 0).val % 512, by omega⟩ ⟨(i 1).val, h1⟩).trans e
    exact ⟨t, flush6 t, (congrArg (fun x => x ∈ ((cfg0.win 6).blk t).view.set) hm').mp hm⟩

/-! ## The reference -/

/-- The two mixers' rows side by side. -/
abbrev joined (yc yd : FVec Ideal S32768x512 .bf16) : FVec Ideal S32768x1024 .bf16 :=
  concatenate S32768x1024 1 [⟨S32768x512, yc⟩, ⟨S32768x512, yd⟩] Cert.Reference4Ideal.Gen.concatenates_S32768x512_S32768x512_S32768x1024_d1

theorem joined_left (yc yd : FVec Ideal S32768x512 .bf16) (r : Fin 32768) (k : Fin 512) : joined yc yd (ix2 r (Fin.castAdd 512 k : Fin 1024)) = yc (ix2 r k) := by
  refine concatenate_pair_apply_left (t := S32768x1024) 1 yc yd _ _ rfl (ix2 r k) fun b => ?_
  fin_cases b <;> rfl

theorem joined_right (yc yd : FVec Ideal S32768x512 .bf16) (r : Fin 32768) (k : Fin 512) : joined yc yd (ix2 r (Fin.natAdd 512 k : Fin 1024)) = yd (ix2 r k) := by
  refine concatenate_pair_apply_right (t := S32768x1024) 1 yc yd _ _ rfl rfl (ix2 r k) (fun b hb => ?_) ?_
  · fin_cases b
    · rfl
    · exact absurd rfl hb
  · show k.val + 512 = 512 + k.val; omega

/-- The rows the norm is taken of. -/
abbrev rows (x : FVec Ideal S32768x1024 .f32) (yc yd : FVec Ideal S32768x512 .bf16) (w : FVec Ideal S1024x1024 .f32) : FVec Ideal S32768x1024 .f32 :=
  addf (mulf (broadcastInDim S32768x1024 ![] Cert.Reference4Ideal.Gen.bcast_S_S32768x1024 (constant Cert.Reference4Ideal.S_ .f32 0x3FB504F3#32)) x)
    (Host.dotGeneral (F := Ideal) Cert.Reference4Ideal.dot_S32768x1024_S1024x1024_S32768x1024_1_0_0_1_n_n none
      (extf .f32 (joined yc yd) Cert.Reference4Ideal.Gen.bitsLt_bf16_f32) w)

theorem rows_apply (x : FVec Ideal S32768x1024 .f32) (yc yd : FVec Ideal S32768x512 .bf16) (w : FVec Ideal S1024x1024 .f32) (r : Fin 32768) (j : Fin 1024) :
    (rows x yc yd w (ix2 r j) : EReal) = Ideal.ofBits .f32 0x3FB504F3#32 * x (ix2 r j)
      + mixed (fun a => yc (ix2 r a)) (fun a => yd (ix2 r a)) (fun a b => w (ix2 a b)) j := by
  refine congrArg (fun z : EReal => _ + z) ((StackMember.dotGeneral_plain_apply none _ w r j).trans ?_)
  refine (Fin.sum_univ_add (a := 512) (b := 512) _).trans ?_
  refine congrArg₂ (fun a b : EReal => a + b) (Finset.sum_congr rfl fun k _ => ?_) (Finset.sum_congr rfl fun k _ => ?_)
  · exact congrArg (fun z : EReal => z * _) (joined_left yc yd r k)
  · exact congrArg (fun z : EReal => z * _) (joined_right yc yd r k)

theorem reference_eq (m : (ℓ : Loc Cert.Reference4Ideal.nD Cert.Reference4Ideal.τ Cert.Reference4Ideal.sig) → Buf (Elt Ideal) ℓ) (c : Dev nD)
    (x : FVec Ideal S32768x1024 .f32) (yc yd : FVec Ideal S32768x512 .bf16) (w : FVec Ideal S1024x1024 .f32) (lg lb : FVec Ideal S1024 .f32)
    (h0 : m ((c.tc : Thread Cert.Reference4Ideal.nD Cert.Reference4Ideal.τ).loc Cert.Reference4Ideal.main_arg0) = x)
    (h1 : m ((c.tc : Thread Cert.Reference4Ideal.nD Cert.Reference4Ideal.τ).loc Cert.Reference4Ideal.main_arg1) = yc)
    (h2 : m ((c.tc : Thread Cert.Reference4Ideal.nD Cert.Reference4Ideal.τ).loc Cert.Reference4Ideal.main_arg2) = yd)
    (h3 : m ((c.tc : Thread Cert.Reference4Ideal.nD Cert.Reference4Ideal.τ).loc Cert.Reference4Ideal.main_arg3) = w)
    (h4 : m ((c.tc : Thread Cert.Reference4Ideal.nD Cert.Reference4Ideal.τ).loc Cert.Reference4Ideal.main_arg4) = lg)
    (h5 : m ((c.tc : Thread Cert.Reference4Ideal.nD Cert.Reference4Ideal.τ).loc Cert.Reference4Ideal.main_arg5) = lb) :
    Cert.Reference4Ideal.Value.res_out0 m c = fun i : S32768x1024.Idx => projOut x yc yd w lg lb (i 0) (i 1) := by
  subst h0 h1 h2 h3 h4 h5
  have h : Cert.Reference4Ideal.Value.res_out0 m c = Dense.Reference.normed (rows _ _ _ _) _ _ := rfl
  refine h.trans (funext fun i => ?_)
  have e : i = (ix2 (i 0) (i 1) : S32768x1024.Idx) := funext fun a => by fin_cases a <;> rfl
  refine (congrArg (Dense.Reference.normed _ _ _) e).trans ((Dense.Reference.normed_apply _ _ _ (i 0) (i 1)).trans ?_)
  unfold projOut
  exact congrArg (fun y => norm y _ _ (i 1)) (funext fun k => rows_apply _ _ _ _ (i 0) k)

end Cert.Proof.OutProj

end
-- ==== Proof.OutProj.Routed.lean ====
/-
  The output projection of a routed layer, over the extended reals: its call also routes, and its first result, the normed
  rows, is that of a dense layer's call (`projOut`). The body stores it once, at the first point as at the later ones.
-/
module

public import proofs.«01_k».proof.Proof.OutProj.Value
public import proofs.«01_k».proof.Proof.Gen.Kernel5Ideal.Value
public import proofs.«01_k».proof.Proof.Gen.Reference5Ideal.Run
public import Idealize.ShloMosaic.Lib.VecWindow

@[expose] public section

noncomputable section

namespace Cert.Proof.OutProj.Routed

open Cert.Kernel5Ideal Cert.Kernel5Ideal.Gen
open Cert.Proof.Dense (lifted norm)
open Cert.Proof.OutProj (projOut out_projOut out_eq)

open Idealize.ShloMosaic Idealize.ShloMosaic.TcCoe Idealize.ShloMosaic.Tactic
open Idealize.ShloMosaic.Pipeline (Dat Cfg Window)

set_option maxRecDepth 65536 in
/-- What the first point leaves of its rows, -/
theorem out_first (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x128 .f32) (harg7 : arg7.IsWhole) (arg8 : Memref sig .tc .vmem S512x1024 .f32) (harg8 : arg8.IsWhole) (arg9 : Memref sig .tc .vmem S512x128 .i32) (harg9 : arg9.IsWhole) (arg10 : Memref sig .tc .vmem S512x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1x1024 .f32) (x6 : Vec Ideal S1024x128 .f32) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = Cert.Kernel4Ideal.Gen.out0_6 (F := Ideal) x0 x1 x2 x3 x4 x5 := by
  refine Eq.trans ?_ (out_eq x0 x1 x2 x3 x4 x5).symm
  have hz : (![0, 0] : Fin 2 → ℕ) = fun _ => 0 := funext fun a => by fin_cases a <;> rfl
  unfold out0_A_7
  rw [View.read_writes_junk_eq_canon]
  unfold kernelRun0_A
  dsimp only
  sl_unfold_words
  rw [View.canon_cons_unit_zero (S := S512x1024) hz]
  simp only [View.readAt_eq_ld, harg1.read_unread, harg2.read_unread, harg3.read_unread, harg4.read_unread, harg5.read_unread, harg6.read_unread,
    View.ld_unit_zero (S := S512x1024) hz, View.ld_unit_zero (S := S512x512) hz, View.ld_unit_zero (S := S1x1024) hz]
  rfl

set_option maxRecDepth 65536 in
/-- and what a later one leaves. -/
theorem out_later (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x128 .f32) (harg7 : arg7.IsWhole) (arg8 : Memref sig .tc .vmem S512x1024 .f32) (harg8 : arg8.IsWhole) (arg9 : Memref sig .tc .vmem S512x128 .i32) (harg9 : arg9.IsWhole) (arg10 : Memref sig .tc .vmem S512x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec Ideal S512x1024 .f32) (x1 : Vec Ideal S512x512 .bf16) (x2 : Vec Ideal S512x512 .bf16) (x3 : Vec Ideal S1024x1024 .bf16) (x4 : Vec Ideal S1x1024 .f32) (x5 : Vec Ideal S1x1024 .f32) (x6 : Vec Ideal S1024x128 .f32) (xs0 : Vec Ideal S8x128 .f32) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0 = Cert.Kernel4Ideal.Gen.out0_6 (F := Ideal) x0 x1 x2 x3 x4 x5 := by
  refine Eq.trans ?_ (out_eq x0 x1 x2 x3 x4 x5).symm
  have hz : (![0, 0] : Fin 2 → ℕ) = fun _ => 0 := funext fun a => by fin_cases a <;> rfl
  unfold out0_B_7
  rw [View.read_writes_junk_eq_canon]
  unfold kernelRun0_B
  dsimp only
  sl_unfold_words
  rw [View.canon_cons_unit_zero (S := S512x1024) hz]
  simp only [View.readAt_eq_ld, harg1.read_unread, harg2.read_unread, harg3.read_unread, harg4.read_unread, harg5.read_unread, harg6.read_unread,
    View.ld_unit_zero (S := S512x1024) hz, View.ld_unit_zero (S := S512x512) hz, View.ld_unit_zero (S := S1x1024) hz]
  rfl

/-! ## The blocks -/

variable (m : (ℓ : Loc nD τ sig) → Buf (Elt Ideal) ℓ)

abbrev xW (c : Dev nD) : S32768x1024.Idx → EReal := m ((c : Thread nD τ).loc main_arg0)
abbrev ycW (c : Dev nD) : S32768x512.Idx → EReal := m ((c : Thread nD τ).loc main_arg1)
abbrev ydW (c : Dev nD) : S32768x512.Idx → EReal := m ((c : Thread nD τ).loc main_arg2)
abbrev wW (c : Dev nD) : S1024x1024.Idx → EReal := m ((c : Thread nD τ).loc main_arg3)
abbrev lgW (c : Dev nD) : S1024.Idx → EReal := m ((c : Thread nD τ).loc main_arg4)
abbrev lbW (c : Dev nD) : S1024.Idx → EReal := m ((c : Thread nD τ).loc main_arg5)

/-- The conversion before the region changes nothing over the extended reals; the two rows gain an axis. -/
theorem V_w (c : Dev nD) : (V m c main_v0 : S1024x1024.Idx → EReal) = wW m c := by rfl
theorem V_lg (c : Dev nD) : (V m c main_v1 : S1x1024.Idx → EReal) = shapeCast S1x1024 (lgW m c) shapeCasts_S1024_S1x1024 := by rfl
theorem V_lb (c : Dev nD) : (V m c main_v2 : S1x1024.Idx → EReal) = shapeCast S1x1024 (lbW m c) shapeCasts_S1024_S1x1024 := by rfl

def expected (c : Dev nD) : S32768x1024.Idx → EReal := fun i => projOut (xW m c) (ycW m c) (ydW m c) (wW m c) (lgW m c) (lbW m c) (i 0) (i 1)

theorem index0_val (t : Fin grid0.N) : cc0_transform_0 (grid0.coords t) = ![t.val, 0] := by revert t; decide
theorem index1_val (t : Fin grid0.N) : cc0_transform_1 (grid0.coords t) = ![t.val, 0] := by revert t; decide
theorem index2_val (t : Fin grid0.N) : cc0_transform_2 (grid0.coords t) = ![t.val, 0] := by revert t; decide
theorem index3_val (t : Fin grid0.N) : cc0_transform_3 (grid0.coords t) = ![0, 0] := by revert t; decide
theorem index4_val (t : Fin grid0.N) : cc0_transform_4 (grid0.coords t) = ![0, 0] := by revert t; decide
theorem index5_val (t : Fin grid0.N) : cc0_transform_5 (grid0.coords t) = ![0, 0] := by revert t; decide
theorem index7_val (t : Fin grid0.N) : cc0_transform_7 (grid0.coords t) = ![t.val, 0] := by revert t; decide

theorem block0 (c : Dev nD) (t : Fin cfg0.N) (h : t.val < 64) (r : Fin 512) (k : Fin 1024) :
    iblk m c 0 t (ix2 r k) = xW m c (ix2 (⟨t.val * 512 + r.val, by omega⟩ : Fin 32768) k) := by
  refine (congrArg (V m c main_arg0 : S32768x1024.Idx → EReal) (funext fun x => Fin.ext ?_)).trans (congrFun (V_main_arg0 m c) _)
  refine (Pipeline.Window.rect_emb_val (cfg0.win 0) t _ x).trans ?_
  have hi : (cfg0.win 0).index t = ![t.val, 0] := index0_val t
  rw [hi]
  fin_cases x
  · rfl
  · show 0 * 1024 + k.val = k.val; omega

theorem block1 (c : Dev nD) (t : Fin cfg0.N) (h : t.val < 64) (r : Fin 512) (k : Fin 512) :
    iblk m c 1 t (ix2 r k) = ycW m c (ix2 (⟨t.val * 512 + r.val, by omega⟩ : Fin 32768) k) := by
  refine (congrArg (V m c main_arg1 : S32768x512.Idx → EReal) (funext fun x => Fin.ext ?_)).trans (congrFun (V_main_arg1 m c) _)
  refine (Pipeline.Window.rect_emb_val (cfg0.win 1) t _ x).trans ?_
  have hi : (cfg0.win 1).index t = ![t.val, 0] := index1_val t
  rw [hi]
  fin_cases x
  · rfl
  · show 0 * 512 + k.val = k.val; omega

theorem block2 (c : Dev nD) (t : Fin cfg0.N) (h : t.val < 64) (r : Fin 512) (k : Fin 512) :
    iblk m c 2 t (ix2 r k) = ydW m c (ix2 (⟨t.val * 512 + r.val, by omega⟩ : Fin 32768) k) := by
  refine (congrArg (V m c main_arg2 : S32768x512.Idx → EReal) (funext fun x => Fin.ext ?_)).trans (congrFun (V_main_arg2 m c) _)
  refine (Pipeline.Window.rect_emb_val (cfg0.win 2) t _ x).trans ?_
  have hi : (cfg0.win 2).index t = ![t.val, 0] := index2_val t
  rw [hi]
  fin_cases x
  · rfl
  · show 0 * 512 + k.val = k.val; omega

theorem block3 (c : Dev nD) (t : Fin cfg0.N) (a k : Fin 1024) : iblk m c 3 t (ix2 a k) = wW m c (ix2 a k) := by
  refine (congrArg (V m c main_v0 : S1024x1024.Idx → EReal) (funext fun x => Fin.ext ?_)).trans (congrFun (V_w m c) _)
  refine (Pipeline.Window.rect_emb_val (cfg0.win 3) t _ x).trans ?_
  have hi : (cfg0.win 3).index t = ![0, 0] := index3_val t
  rw [hi]
  fin_cases x
  · show 0 * 1024 + a.val = a.val; omega
  · show 0 * 1024 + k.val = k.val; omega

theorem block4 (c : Dev nD) (t : Fin cfg0.N) (k : Fin 1024) : iblk m c 4 t (ix2 (0 : Fin 1) k) = lgW m c (ix1 k) := by
  refine (congrArg (V m c main_v1 : S1x1024.Idx → EReal) (funext fun x => Fin.ext ?_)).trans ((congrFun (V_lg m c) (ix2 (0 : Fin 1) k)).trans (lifted _ _ k))
  refine (Pipeline.Window.rect_emb_val (cfg0.win 4) t _ x).trans ?_
  have hi : (cfg0.win 4).index t = ![0, 0] := index4_val t
  rw [hi]
  fin_cases x
  · rfl
  · show 0 * 1024 + k.val = k.val; omega

theorem block5 (c : Dev nD) (t : Fin cfg0.N) (k : Fin 1024) : iblk m c 5 t (ix2 (0 : Fin 1) k) = lbW m c (ix1 k) := by
  refine (congrArg (V m c main_v2 : S1x1024.Idx → EReal) (funext fun x => Fin.ext ?_)).trans ((congrFun (V_lb m c) (ix2 (0 : Fin 1) k)).trans (lifted _ _ k))
  refine (Pipeline.Window.rect_emb_val (cfg0.win 5) t _ x).trans ?_
  have hi : (cfg0.win 5).index t = ![0, 0] := index5_val t
  rw [hi]
  fin_cases x
  · rfl
  · show 0 * 1024 + k.val = k.val; omega

theorem written_apply (c : Dev nD) (t : Fin cfg0.N) (h : t.val < 64) (r : Fin 512) (j : Fin 1024) :
    Cert.Kernel4Ideal.Gen.out0_6 (F := Ideal) (iblk m c 0 t) (iblk m c 1 t) (iblk m c 2 t) (iblk m c 3 t) (iblk m c 4 t) (iblk m c 5 t) (ix2 r j)
      = expected m c (ix2 (⟨t.val * 512 + r.val, by omega⟩ : Fin 32768) j) := by
  exact out_projOut _ _ _ _ _ _ _ _ _ _ _ _ r _ j (block0 m c t h r) (block1 m c t h r) (block2 m c t h r) (block3 m c t) (block4 m c t) (block5 m c t)

/-! ## The array -/

theorem flush7 (t : Fin cfg0.N) : (cfg0.win 7).flush t = true := by
  have key : ∀ t : Fin grid0.N, Window.flushOf grid0 true cc0_transform_7 t = true := by decide
  exact (Window.flush_eq_flushOf _ t).trans (key t)

theorem emb7 (t : Fin cfg0.N) (h : t.val < 64) (r : Fin 512) (j : Fin 1024) :
    ((cfg0.win 7).blk t).view.emb (ix2 r j) = ix2 (⟨t.val * 512 + r.val, by omega⟩ : Fin 32768) j := by
  refine funext fun a => Fin.ext ?_
  refine (Pipeline.Window.rect_emb_val (cfg0.win 7) t _ a).trans ?_
  have hi : (cfg0.win 7).index t = ![t.val, 0] := index7_val t
  rw [hi]
  fin_cases a
  · rfl
  · show 0 * 1024 + j.val = j.val; omega

theorem flushed_eq (c : Dev nD) (t : Fin cfg0.N) (y : S512x1024.Idx) : (dats m 0 c).flushed 7 t y
    = Cert.Kernel4Ideal.Gen.out0_6 (F := Ideal) (iblk m c 0 t) (iblk m c 1 t) (iblk m c 2 t) (iblk m c 3 t) (iblk m c 4 t) (iblk m c 5 t) y := by
  by_cases h0 : t.val % 64 = 0
  · refine (congrFun (Cert.Kernel5Ideal.Value.flushed7_A m c t h0) y).trans ?_
    exact congrFun (out_first c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) y
  · refine (congrFun (Cert.Kernel5Ideal.Value.flushed7_B m c t h0) y).trans ?_
    exact congrFun (out_later c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _) y

theorem result_eq (c : Dev nD) : (dats m 0 c).arrAt 7 cfg0.N = expected m c := by
  refine (dats m 0 c).arrAt_eq_of_emb 7 (expected m c) (fun t _ (y : S512x1024.Idx) => ?_) (fun (i : S32768x1024.Idx) => ?_)
  · have ht : t.val < 64 := t.isLt
    have ey : y = (ix2 (y 0) (y 1) : S512x1024.Idx) := funext fun a => by fin_cases a <;> rfl
    have hv : (dats m 0 c).flushed 7 t y = Cert.Kernel4Ideal.Gen.out0_6 (F := Ideal) (iblk m c 0 t) (iblk m c 1 t) (iblk m c 2 t) (iblk m c 3 t) (iblk m c 4 t) (iblk m c 5 t) (ix2 (y 0) (y 1)) :=
      (flushed_eq m c t y).trans (congrArg (Cert.Kernel4Ideal.Gen.out0_6 (F := Ideal) _ _ _ _ _ _) ey)
    have he : ((cfg0.win 7).blk t).view.emb y = ix2 (⟨t.val * 512 + (y 0).val, by have := (y 0).isLt; change (y 0).val < 512 at this; omega⟩ : Fin 32768) (y 1) :=
      (congrArg ((cfg0.win 7).blk t).view.emb ey).trans (emb7 t ht (y 0) (y 1))
    exact (hv.trans (written_apply m c t ht (y 0) (y 1))).trans (congrArg (expected m c) he.symm)
  · have h0 : (i 0).val < 32768 := (i 0).isLt
    have h1 : (i 1).val < 1024 := (i 1).isLt
    have ht : (i 0).val / 512 < 64 := by omega
    let t : Fin cfg0.N := ⟨(i 0).val / 512, ht⟩
    have e : (ix2 (⟨t.val * 512 + (i 0).val % 512, by show (i 0).val / 512 * 512 + (i 0).val % 512 < 32768; omega⟩ : Fin 32768) (⟨(i 1).val, h1⟩ : Fin 1024) : S32768x1024.Idx) = i := by
      refine funext fun a => Fin.ext ?_
      fin_cases a
      · show (i 0).val / 512 * 512 + (i 0).val % 512 = (i 0).val; omega
      · rfl
    have hm : ((cfg0.win 7).blk t).view.emb (ix2 (⟨(i 0).val % 512, by omega⟩ : Fin 512) (⟨(i 1).val, h1⟩ : Fin 1024))
        ∈ ((cfg0.win 7).blk t).view.set := View.emb_mem_set _ _
    have hm' := (emb7 t ht ⟨(i 0).val % 512, by omega⟩ ⟨(i 1).val, h1⟩).trans e
    exact ⟨t, flush7 t, (congrArg (fun x => x ∈ ((cfg0.win 7).blk t).view.set) hm').mp hm⟩

/-! ## The reference -/

theorem reference_eq (m : (ℓ : Loc Cert.Reference5Ideal.nD Cert.Reference5Ideal.τ Cert.Reference5Ideal.sig) → Buf (Elt Ideal) ℓ) (c : Dev nD)
    (x : FVec Ideal S32768x1024 .f32) (yc yd : FVec Ideal S32768x512 .bf16) (w : FVec Ideal S1024x1024 .f32) (lg lb : FVec Ideal S1024 .f32)
    (h0 : m ((c.tc : Thread Cert.Reference5Ideal.nD Cert.Reference5Ideal.τ).loc Cert.Reference5Ideal.main_arg0) = x)
    (h1 : m ((c.tc : Thread Cert.Reference5Ideal.nD Cert.Reference5Ideal.τ).loc Cert.Reference5Ideal.main_arg1) = yc)
    (h2 : m ((c.tc : Thread Cert.Reference5Ideal.nD Cert.Reference5Ideal.τ).loc Cert.Reference5Ideal.main_arg2) = yd)
    (h3 : m ((c.tc : Thread Cert.Reference5Ideal.nD Cert.Reference5Ideal.τ).loc Cert.Reference5Ideal.main_arg3) = w)
    (h4 : m ((c.tc : Thread Cert.Reference5Ideal.nD Cert.Reference5Ideal.τ).loc Cert.Reference5Ideal.main_arg4) = lg)
    (h5 : m ((c.tc : Thread Cert.Reference5Ideal.nD Cert.Reference5Ideal.τ).loc Cert.Reference5Ideal.main_arg5) = lb) :
    Cert.Reference5Ideal.Value.res_out0 m c = fun i : S32768x1024.Idx => projOut x yc yd w lg lb (i 0) (i 1) := by
  subst h0 h1 h2 h3 h4 h5
  have h : Cert.Reference5Ideal.Value.res_out0 m c = Dense.Reference.normed (OutProj.rows _ _ _ _) _ _ := rfl
  refine h.trans (funext fun i => ?_)
  have e : i = (ix2 (i 0) (i 1) : S32768x1024.Idx) := funext fun a => by fin_cases a <;> rfl
  refine (congrArg (Dense.Reference.normed _ _ _) e).trans ((Dense.Reference.normed_apply _ _ _ (i 0) (i 1)).trans ?_)
  unfold projOut
  exact congrArg (fun y => norm y _ _ (i 1)) (funext fun k => OutProj.rows_apply _ _ _ _ (i 0) k)

end Cert.Proof.OutProj.Routed

end
-- ==== Proof.Dense.Out.lean ====
/-
  What the dense feed-forward's body leaves of a block of 1024 rows: eleven chunks of 256 hidden units accumulated, then
  the layer norm (`out_eq`).
-/
module

public import proofs.«01_k».proof.Proof.Gen.Kernel2Ideal.Value
public import Idealize.ShloMosaic.Lib.VecWindow
public import Idealize.ShloMosaic.Lib.ValueIdx

@[expose] public section

noncomputable section

namespace Cert.Proof.Dense

open Cert.Kernel2Ideal Cert.Kernel2Ideal.Gen

open Idealize.ShloMosaic Idealize.ShloMosaic.TcCoe Idealize.ShloMosaic.Tactic Idealize.ShloMosaic.ValueIdx

variable {F : FTy → Type} [FloatOps F]

/-- One chunk of 256 hidden units: `silu (X·g) ⊙ (X·u)`, times its rows of the third matrix. -/
def chunk (X : Vec F S1024x1024 .bf16) (g u : Vec F S1024x256 .bf16) (d : Vec F S256x1024 .bf16) : FVec F S1024x1024 .f32 := k0_pay3 X g u d

section Steps

variable (X : Vec F S1024x1024 .bf16) (g u : Vec F S1024x256 .bf16) (d : Vec F S256x1024 .bf16) (a : Vec F S1024x1024 .f32)

theorem pay3_eq : k0_pay3 X g u d = chunk X g u d := rfl
theorem pay5_eq : k0_pay5 X (k0_pay4 X g) u d a = addf a (chunk X g u d) := by
  show addf (shapeCast S1024x1024 a shapeCasts_S1024x1024_S1024x1024) (chunk X g u d) = _
  rw [shapeCast_self]
theorem pay7_eq : k0_pay7 (k0_pay6 X g u) d a = addf a (chunk X g u d) := by
  show addf (shapeCast S1024x1024 a shapeCasts_S1024x1024_S1024x1024) (chunk X g u d) = _
  rw [shapeCast_self]
theorem pay8_eq : k0_pay8 X g u d a = addf a (chunk X g u d) := by
  show addf (shapeCast S1024x1024 a shapeCasts_S1024x1024_S1024x1024) (chunk X g u d) = _
  rw [shapeCast_self]
theorem pay9_eq : k0_pay9 X g u d a = addf a (chunk X g u d) := by
  show addf (shapeCast S1024x1024 a shapeCasts_S1024x1024_S1024x1024) (chunk X g u d) = _
  rw [shapeCast_self]
theorem pay13_eq : k0_pay13 (k0_pay10 X g) (k0_pay11 X u) (k0_pay12 X g) d a = addf a (chunk X g u d) := by
  show addf (shapeCast S1024x1024 a shapeCasts_S1024x1024_S1024x1024) (chunk X g u d) = _
  rw [shapeCast_self]
theorem pay15_eq : k0_pay15 (k0_pay14 X g u d) a = addf a (chunk X g u d) := by
  show addf (shapeCast S1024x1024 a shapeCasts_S1024x1024_S1024x1024) (chunk X g u d) = _
  rw [shapeCast_self]
theorem pay16_eq : k0_pay16 X g u d a = addf a (chunk X g u d) := by
  show addf (shapeCast S1024x1024 a shapeCasts_S1024x1024_S1024x1024) (chunk X g u d) = _
  rw [shapeCast_self]
theorem pay18_eq : k0_pay18 X (k0_pay17 X g) u d a = addf a (chunk X g u d) := by
  show addf (shapeCast S1024x1024 a shapeCasts_S1024x1024_S1024x1024) (chunk X g u d) = _
  rw [shapeCast_self]
theorem pay20_eq : k0_pay20 (k0_pay19 X g u) d a = addf a (chunk X g u d) := by
  show addf (shapeCast S1024x1024 a shapeCasts_S1024x1024_S1024x1024) (chunk X g u d) = _
  rw [shapeCast_self]
theorem pay21_eq : k0_pay21 X g u d a = addf a (chunk X g u d) := by
  show addf (shapeCast S1024x1024 a shapeCasts_S1024x1024_S1024x1024) (chunk X g u d) = _
  rw [shapeCast_self]

end Steps

theorem cols_inb (k : Fin 11) : ∀ a, (![0, 256 * k.val] : Fin 2 → ℕ) a + S1024x256.size a ≤ S1024x2816.size a := by
  have := k.isLt
  intro a; fin_cases a
  · exact (by decide : (0 : ℕ) + 1024 ≤ 1024)
  · show 256 * k.val + 256 ≤ 2816; omega

theorem rows_inb (k : Fin 11) : ∀ a, (![256 * k.val, 0] : Fin 2 → ℕ) a + S256x1024.size a ≤ S2816x1024.size a := by
  have := k.isLt
  intro a; fin_cases a
  · show 256 * k.val + 256 ≤ 2816; omega
  · exact (by decide : (0 : ℕ) + 1024 ≤ 1024)

/-- Columns `256k … 256k+255` of the first two matrices, -/
def colsAt (W : S1024x2816.Idx → Elt F .bf16) (k : Fin 11) : Vec F S1024x256 .bf16 :=
  View.ld W (Rect.unit (s := S1024x2816) ![0, 256 * k.val] S1024x256.size (cols_inb k))
/-- and as many rows of the third. -/
def rowsAt (W : S2816x1024.Idx → Elt F .bf16) (k : Fin 11) : Vec F S256x1024 .bf16 :=
  View.ld W (Rect.unit (s := S2816x1024) ![256 * k.val, 0] S256x1024.size (rows_inb k))

/-- Chunk `k`. -/
def chunkAt (X : Vec F S1024x1024 .bf16) (g u : S1024x2816.Idx → Elt F .bf16) (d : S2816x1024.Idx → Elt F .bf16) (k : Fin 11) :
    FVec F S1024x1024 .f32 := chunk X (colsAt g k) (colsAt u k) (rowsAt d k)

/-- The feed-forward of a block of rows, accumulated chunk after chunk. -/
def ffnOut (X : Vec F S1024x1024 .bf16) (g u : S1024x2816.Idx → Elt F .bf16) (d : S2816x1024.Idx → Elt F .bf16) : FVec F S1024x1024 .f32 :=
  addf (addf (addf (addf (addf (addf (addf (addf (addf (addf (chunkAt X g u d 0) (chunkAt X g u d 1)) (chunkAt X g u d 2)) (chunkAt X g u d 3))
    (chunkAt X g u d 4)) (chunkAt X g u d 5)) (chunkAt X g u d 6)) (chunkAt X g u d 7)) (chunkAt X g u d 8)) (chunkAt X g u d 9)) (chunkAt X g u d 10)

theorem off_zero : (![0, 0] : Fin 2 → ℕ) = fun _ => 0 := funext fun a => by fin_cases a <;> rfl

set_option maxRecDepth 65536 in
/-- What a block writes. -/
theorem out_eq (c : Dev nD) (i : grid0.Coords) (M1 : Memref sig .tc .vmem S1024x1024 .f32) (h1 : M1.IsWhole) (M2 : Memref sig .tc .vmem S1024x2816 .bf16) (h2 : M2.IsWhole)
    (M3 : Memref sig .tc .vmem S1024x2816 .bf16) (h3 : M3.IsWhole) (M4 : Memref sig .tc .vmem S2816x1024 .bf16) (h4 : M4.IsWhole)
    (M5 : Memref sig .tc .vmem S1x1024 .f32) (h5 : M5.IsWhole) (M6 : Memref sig .tc .vmem S1x1024 .f32) (h6 : M6.IsWhole)
    (M7 : Memref sig .tc .vmem S1024x1024 .f32) (h7 : M7.IsWhole) (M8 : Memref sig .tc .vmem S1024x1024 .bf16) (h8 : M8.IsWhole)
    (x : Vec F S1024x1024 .f32) (g u : Vec F S1024x2816 .bf16) (d : Vec F S2816x1024 .bf16) (lg lb : Vec F S1x1024 .f32) :
    out0_A_6 c i M1 h1 M2 h2 M3 h3 M4 h4 M5 h5 M6 h6 M7 h7 M8 h8 x g u d lg lb = k0_pay1 x (ffnOut (k0_pay2 x) g u d) lg lb := by
  unfold out0_A_6
  rw [View.read_writes_junk_eq_canon]
  unfold kernelRun0_A
  dsimp only
  sl_unfold_words
  rw [View.canon_cons_unit_zero (S := S1024x1024) off_zero]
  simp only [View.readCov_cons_toLoadRect, View.readAt_eq_ld, h1.read_unread, h2.read_unread, h3.read_unread, h4.read_unread, h5.read_unread, h6.read_unread,
    View.ld_unit_zero (S := S1024x1024) off_zero, View.ld_unit_zero (S := S1x1024) off_zero, pay5_eq, pay7_eq, pay8_eq, pay9_eq, pay13_eq, pay15_eq, pay16_eq, pay18_eq, pay20_eq, pay21_eq, pay3_eq]
  rfl

end Cert.Proof.Dense

end
-- ==== Proof.Dense.Value.lean ====
/-
  The dense feed-forward's result, over the extended reals, index by index: `denseOut` of the arguments.
-/
module

public import proofs.«01_k».proof.Proof.Dense.Spec
public import proofs.«01_k».proof.Proof.Dense.Out
public import proofs.«01_k».proof.Proof.Dense.KernelNorm
public import proofs.«01_k».proof.Proof.Experts.ChunkValue
public import Idealize.ShloMosaic.Lib.Pipeline.ValueKit.Geometry

@[expose] public section

noncomputable section

namespace Cert.Proof.Dense

open Cert.Kernel2Ideal Cert.Kernel2Ideal.Gen
open Cert.Proof.Experts (hidden silu product)

open Idealize.ShloMosaic Idealize.ShloMosaic.TcCoe
open Idealize.ShloMosaic.Pipeline (Dat Cfg Window)
open scoped BigOperators

/-! ## The chunks -/

theorem unitProduct (X : Vec Ideal S1024x1024 .bf16) (g : Vec Ideal S1024x256 .bf16) (r : Fin 1024) (y : Fin 256) :
    matmul (F := Ideal) (φ₁ := .bf16) (φ₂ := .bf16) dot_S1024x1024_S1024x256_S1024x256_1_0_0_1_n_n none X (shapeCast S1024x256 g shapeCasts_S1024x256_S1024x256 : FVec Ideal S1024x256 .bf16)
        (constant S1024x256 .f32 0x00000000#32) (ix2 r y)
      = ∑ k : Fin 1024, (X (ix2 r k) : EReal) * g (ix2 k y) := by
  refine (product X _ r y).trans (Finset.sum_congr rfl fun k _ => ?_)
  exact congrArg (fun z : EReal => _ * z) (congrFun (shapeCast_self g _) (ix2 k y))

/-- A chunk at row `r`, column `j`. -/
theorem chunk_apply (X : Vec Ideal S1024x1024 .bf16) (g u : Vec Ideal S1024x256 .bf16) (d : Vec Ideal S256x1024 .bf16) (r j : Fin 1024) :
    chunk X g u d (ix2 r j) = ∑ y : Fin 256, hidden (fun k => X (ix2 r k)) (fun k => g (ix2 k y)) (fun k => u (ix2 k y)) * d (ix2 y j) := by
  unfold chunk k0_pay3
  refine (product _ _ r j).trans (Finset.sum_congr rfl fun y _ => ?_)
  refine congrArg₂ (fun a b : EReal => a * b) ?_ (congrFun (shapeCast_self d _) (ix2 y j))
  have hg := unitProduct X g r y
  have hu := unitProduct X u r y
  unfold Cert.Proof.Experts.hidden silu
  rw [← hg, ← hu]
  refine congrArg (fun z : EReal => _ * Ideal.div _ (_ + Ideal.exp z) * _) ?_
  show Ideal.ofBits .f32 0x00000000#32 - _ = _
  rw [Ideal.ofBits_zero_f32, zero_sub]
  rfl

theorem colsAt_apply (W : S1024x2816.Idx → EReal) (k : Fin 11) (c : Fin 1024) (y : Fin 256) :
    colsAt (F := Ideal) W k (ix2 c y) = W (ix2 c (unitAt k y)) := by
  refine congrArg W (funext fun a => Fin.ext ?_)
  fin_cases a
  · show 0 + 1 * c.val = c.val; omega
  · show 256 * k.val + 1 * y.val = 256 * k.val + y.val; omega

theorem rowsAt_apply (W : S2816x1024.Idx → EReal) (k : Fin 11) (y : Fin 256) (j : Fin 1024) :
    rowsAt (F := Ideal) W k (ix2 y j) = W (ix2 (unitAt k y) j) := by
  refine congrArg W (funext fun a => Fin.ext ?_)
  fin_cases a
  · show 256 * k.val + 1 * y.val = 256 * k.val + y.val; omega
  · show 0 + 1 * j.val = j.val; omega

theorem chunkAt_apply (X : Vec Ideal S1024x1024 .bf16) (g u : S1024x2816.Idx → EReal) (d : S2816x1024.Idx → EReal) (k : Fin 11) (r j : Fin 1024) :
    chunkAt (F := Ideal) X g u d k (ix2 r j) = ∑ y : Fin 256, hidden (fun c => X (ix2 r c)) (fun c => g (ix2 c (unitAt k y)))
      (fun c => u (ix2 c (unitAt k y))) * d (ix2 (unitAt k y) j) := by
  refine (chunk_apply X _ _ _ r j).trans (Finset.sum_congr rfl fun y _ => ?_)
  refine congrArg₂ (fun a b : EReal => a * b) (congrArg₂ (hidden _) ?_ ?_) (rowsAt_apply d k y j)
  · exact funext fun c => colsAt_apply g k c y
  · exact funext fun c => colsAt_apply u k c y

theorem sum_eleven (h : Fin 11 → EReal) : ∑ k, h k = h 0 + h 1 + h 2 + h 3 + h 4 + h 5 + h 6 + h 7 + h 8 + h 9 + h 10 := by
  simp only [Fin.sum_univ_castSucc, Fin.sum_univ_zero, zero_add]
  rfl

theorem ffnOut_apply (X : Vec Ideal S1024x1024 .bf16) (g u : S1024x2816.Idx → EReal) (d : S2816x1024.Idx → EReal) (r j : Fin 1024) :
    ffnOut (F := Ideal) X g u d (ix2 r j) = ffn (fun c => X (ix2 r c)) (fun c f => g (ix2 c f)) (fun c f => u (ix2 c f)) (fun f j => d (ix2 f j)) j := by
  rw [ffn_chunks, sum_eleven]
  simp only [← chunkAt_apply X g u d]
  rfl

/-! ## The block -/

/-- What a block writes, at row `r`, column `j`. -/
theorem pay1_apply (x a : Vec Ideal S1024x1024 .f32) (lg lb : Vec Ideal S1x1024 .f32) (r j : Fin 1024) :
    k0_pay1 x a lg lb (ix2 r j) = norm (fun k => Ideal.ofBits .f32 0x3FB504F3#32 * x (ix2 r k) + a (ix2 r k))
      (fun k => lg (ix2 (0 : Fin 1) k)) (fun k => lb (ix2 (0 : Fin 1) k)) j := by
  have h : k0_pay1 x a lg lb = normed reduces_S1024x1024_S1024 shapeCasts_S1024_S1024x1 broadcasts_S1024x1_S1024x1024 broadcasts_S1x1024_S1024x1024
      (addf (mulf (broadcast S1024x1024 (Scalar.ofBits .f32 0x3FB504F3#32)) x) (shapeCast S1024x1024 a shapeCasts_S1024x1024_S1024x1024))
      (shapeCast S1x1024 lg shapeCasts_S1x1024_S1x1024) (shapeCast S1x1024 lb shapeCasts_S1x1024_S1x1024) := rfl
  rw [h, shapeCast_self, shapeCast_self, shapeCast_self]
  exact normed_apply _ _ _ _ _ _ _ r j

/-! ## The blocks -/

variable (m : (ℓ : Loc nD τ sig) → Buf (Elt Ideal) ℓ)

abbrev xW (c : Dev nD) : S32768x1024.Idx → EReal := m ((c : Thread nD τ).loc main_arg0)
abbrev gW (c : Dev nD) : S1024x2816.Idx → EReal := m ((c : Thread nD τ).loc main_arg1)
abbrev uW (c : Dev nD) : S1024x2816.Idx → EReal := m ((c : Thread nD τ).loc main_arg2)
abbrev dW (c : Dev nD) : S2816x1024.Idx → EReal := m ((c : Thread nD τ).loc main_arg3)
abbrev lgW (c : Dev nD) : S1024.Idx → EReal := m ((c : Thread nD τ).loc main_arg4)
abbrev lbW (c : Dev nD) : S1024.Idx → EReal := m ((c : Thread nD τ).loc main_arg5)

/-- The conversions before the region change nothing over the extended reals; the two rows gain an axis. -/
theorem V_g (c : Dev nD) : (V m c main_v0 : S1024x2816.Idx → EReal) = gW m c := by rfl
theorem V_u (c : Dev nD) : (V m c main_v1 : S1024x2816.Idx → EReal) = uW m c := by rfl
theorem V_d (c : Dev nD) : (V m c main_v2 : S2816x1024.Idx → EReal) = dW m c := by rfl
theorem V_lg (c : Dev nD) : (V m c main_v3 : S1x1024.Idx → EReal) = shapeCast S1x1024 (lgW m c) shapeCasts_S1024_S1x1024 := by rfl
theorem V_lb (c : Dev nD) : (V m c main_v4 : S1x1024.Idx → EReal) = shapeCast S1x1024 (lbW m c) shapeCasts_S1024_S1x1024 := by rfl

def expected (c : Dev nD) : S32768x1024.Idx → EReal := fun i => denseOut (xW m c) (gW m c) (uW m c) (dW m c) (lgW m c) (lbW m c) (i 0) (i 1)

theorem index0_val (t : Fin grid0.N) : cc0_transform_0 (grid0.coords t) = ![t.val, 0] := by revert t; decide
theorem index1_val (t : Fin grid0.N) : cc0_transform_1 (grid0.coords t) = ![0, 0] := by revert t; decide
theorem index2_val (t : Fin grid0.N) : cc0_transform_2 (grid0.coords t) = ![0, 0] := by revert t; decide
theorem index3_val (t : Fin grid0.N) : cc0_transform_3 (grid0.coords t) = ![0, 0] := by revert t; decide
theorem index4_val (t : Fin grid0.N) : cc0_transform_4 (grid0.coords t) = ![0, 0] := by revert t; decide
theorem index5_val (t : Fin grid0.N) : cc0_transform_5 (grid0.coords t) = ![0, 0] := by revert t; decide
theorem index6_val (t : Fin grid0.N) : cc0_transform_6 (grid0.coords t) = ![t.val, 0] := by revert t; decide

theorem block0 (c : Dev nD) (t : Fin cfg0.N) (h : t.val < 32) (r k : Fin 1024) :
    iblk m c 0 t (ix2 r k) = xW m c (ix2 (⟨t.val * 1024 + r.val, by omega⟩ : Fin 32768) k) := by
  refine (congrArg (V m c main_arg0 : S32768x1024.Idx → EReal) (funext fun x => Fin.ext ?_)).trans (congrFun (V_main_arg0 m c) _)
  refine (Pipeline.Window.rect_emb_val (cfg0.win 0) t _ x).trans ?_
  have hi : (cfg0.win 0).index t = ![t.val, 0] := index0_val t
  rw [hi]
  fin_cases x
  · rfl
  · show 0 * 1024 + k.val = k.val; omega

theorem block1 (c : Dev nD) (t : Fin cfg0.N) (a : Fin 1024) (b : Fin 2816) : iblk m c 1 t (ix2 a b) = gW m c (ix2 a b) := by
  refine (congrArg (V m c main_v0 : S1024x2816.Idx → EReal) (funext fun x => Fin.ext ?_)).trans (congrFun (V_g m c) _)
  refine (Pipeline.Window.rect_emb_val (cfg0.win 1) t _ x).trans ?_
  have hi : (cfg0.win 1).index t = ![0, 0] := index1_val t
  rw [hi]
  fin_cases x
  · show 0 * 1024 + a.val = a.val; omega
  · show 0 * 2816 + b.val = b.val; omega

theorem block2 (c : Dev nD) (t : Fin cfg0.N) (a : Fin 1024) (b : Fin 2816) : iblk m c 2 t (ix2 a b) = uW m c (ix2 a b) := by
  refine (congrArg (V m c main_v1 : S1024x2816.Idx → EReal) (funext fun x => Fin.ext ?_)).trans (congrFun (V_u m c) _)
  refine (Pipeline.Window.rect_emb_val (cfg0.win 2) t _ x).trans ?_
  have hi : (cfg0.win 2).index t = ![0, 0] := index2_val t
  rw [hi]
  fin_cases x
  · show 0 * 1024 + a.val = a.val; omega
  · show 0 * 2816 + b.val = b.val; omega

theorem block3 (c : Dev nD) (t : Fin cfg0.N) (a : Fin 2816) (b : Fin 1024) : iblk m c 3 t (ix2 a b) = dW m c (ix2 a b) := by
  refine (congrArg (V m c main_v2 : S2816x1024.Idx → EReal) (funext fun x => Fin.ext ?_)).trans (congrFun (V_d m c) _)
  refine (Pipeline.Window.rect_emb_val (cfg0.win 3) t _ x).trans ?_
  have hi : (cfg0.win 3).index t = ![0, 0] := index3_val t
  rw [hi]
  fin_cases x
  · show 0 * 2816 + a.val = a.val; omega
  · show 0 * 1024 + b.val = b.val; omega

theorem block4 (c : Dev nD) (t : Fin cfg0.N) (j : Fin 1024) : iblk m c 4 t (ix2 (0 : Fin 1) j) = lgW m c (ix1 j) := by
  refine (congrArg (V m c main_v3 : S1x1024.Idx → EReal) (funext fun x => Fin.ext ?_)).trans ((congrFun (V_lg m c) (ix2 (0 : Fin 1) j)).trans (lifted _ _ j))
  refine (Pipeline.Window.rect_emb_val (cfg0.win 4) t _ x).trans ?_
  have hi : (cfg0.win 4).index t = ![0, 0] := index4_val t
  rw [hi]
  fin_cases x
  · rfl
  · show 0 * 1024 + j.val = j.val; omega

theorem block5 (c : Dev nD) (t : Fin cfg0.N) (j : Fin 1024) : iblk m c 5 t (ix2 (0 : Fin 1) j) = lbW m c (ix1 j) := by
  refine (congrArg (V m c main_v4 : S1x1024.Idx → EReal) (funext fun x => Fin.ext ?_)).trans ((congrFun (V_lb m c) (ix2 (0 : Fin 1) j)).trans (lifted _ _ j))
  refine (Pipeline.Window.rect_emb_val (cfg0.win 5) t _ x).trans ?_
  have hi : (cfg0.win 5).index t = ![0, 0] := index5_val t
  rw [hi]
  fin_cases x
  · rfl
  · show 0 * 1024 + j.val = j.val; omega

/-- What point `t` writes. -/
abbrev written (c : Dev nD) (t : Fin cfg0.N) : S1024x1024.Idx → EReal :=
  k0_pay1 (iblk m c 0 t) (ffnOut (F := Ideal) (k0_pay2 (iblk m c 0 t)) (iblk m c 1 t) (iblk m c 2 t) (iblk m c 3 t)) (iblk m c 4 t) (iblk m c 5 t)

theorem written_apply (c : Dev nD) (t : Fin cfg0.N) (h : t.val < 32) (r j : Fin 1024) :
    written m c t (ix2 r j) = expected m c (ix2 (⟨t.val * 1024 + r.val, by omega⟩ : Fin 32768) j) := by
  refine (pay1_apply _ _ _ _ r j).trans ?_
  show _ = denseOut (xW m c) (gW m c) (uW m c) (dW m c) (lgW m c) (lbW m c) (⟨t.val * 1024 + r.val, by omega⟩ : Fin 32768) j
  unfold denseOut
  have hr : (fun k : Fin 1024 => Ideal.ofBits .f32 0x3FB504F3#32 * (iblk m c 0 t (ix2 r k) : EReal)
        + ffnOut (F := Ideal) (k0_pay2 (iblk m c 0 t)) (iblk m c 1 t) (iblk m c 2 t) (iblk m c 3 t) (ix2 r k))
      = fun k => Ideal.ofBits .f32 0x3FB504F3#32 * xW m c (ix2 (⟨t.val * 1024 + r.val, by omega⟩ : Fin 32768) k)
        + ffn (fun a => xW m c (ix2 (⟨t.val * 1024 + r.val, by omega⟩ : Fin 32768) a)) (fun a f => gW m c (ix2 a f)) (fun a f => uW m c (ix2 a f)) (fun f a => dW m c (ix2 f a)) k := by
    funext k
    refine congrArg₂ (fun x y : EReal => x + y) (congrArg (fun z : EReal => _ * z) (block0 m c t h r k)) ((ffnOut_apply _ _ _ _ r k).trans ?_)
    have hx : (fun a => (k0_pay2 (F := Ideal) (iblk m c 0 t) (ix2 r a) : EReal)) = fun a => xW m c (ix2 (⟨t.val * 1024 + r.val, by omega⟩ : Fin 32768) a) :=
      funext fun a => (congrFun (shapeCast_self (iblk m c 0 t : S1024x1024.Idx → EReal) shapeCasts_S1024x1024_S1024x1024) (ix2 r a)).trans (block0 m c t h r a)
    have hg : (fun a f => (iblk m c 1 t : S1024x2816.Idx → EReal) (ix2 a f)) = fun a f => gW m c (ix2 a f) := funext fun a => funext fun f => block1 m c t a f
    have hu : (fun a f => (iblk m c 2 t : S1024x2816.Idx → EReal) (ix2 a f)) = fun a f => uW m c (ix2 a f) := funext fun a => funext fun f => block2 m c t a f
    have hd : (fun f a => (iblk m c 3 t : S2816x1024.Idx → EReal) (ix2 f a)) = fun f a => dW m c (ix2 f a) := funext fun f => funext fun a => block3 m c t f a
    exact (congrArg₂ (fun x g => ffn x g _ _ k) hx hg).trans (congrArg₂ (fun u d => ffn _ _ u d k) hu hd)
  refine (congrArg (fun y => norm y _ _ j) hr).trans ?_
  exact congrArg₂ (fun g b => norm _ g b j) (funext fun k => block4 m c t k) (funext fun k => block5 m c t k)

/-! ## The array -/

theorem flush6 (t : Fin cfg0.N) : (cfg0.win 6).flush t = true := by
  have key : ∀ t : Fin grid0.N, Window.flushOf grid0 true cc0_transform_6 t = true := by decide
  exact (Window.flush_eq_flushOf _ t).trans (key t)

theorem emb6 (t : Fin cfg0.N) (h : t.val < 32) (r j : Fin 1024) :
    ((cfg0.win 6).blk t).view.emb (ix2 r j) = ix2 (⟨t.val * 1024 + r.val, by omega⟩ : Fin 32768) j := by
  refine funext fun a => Fin.ext ?_
  refine (Pipeline.Window.rect_emb_val (cfg0.win 6) t _ a).trans ?_
  have hi : (cfg0.win 6).index t = ![t.val, 0] := index6_val t
  rw [hi]
  fin_cases a
  · rfl
  · show 0 * 1024 + j.val = j.val; omega

theorem flushed_eq (c : Dev nD) (t : Fin cfg0.N) (y : S1024x1024.Idx) : (dats m 0 c).flushed 6 t y = written m c t y := by
  refine (congrFun (Cert.Kernel2Ideal.Value.flushed6_A m c t) y).trans ?_
  exact congrFun (out_eq c (grid0.coords t) _ _ _ _ _ _ _ _ _ _ _ _ _ _ _ _ (iblk m c 0 t) (iblk m c 1 t) (iblk m c 2 t) (iblk m c 3 t) (iblk m c 4 t) (iblk m c 5 t)) y

theorem result_eq (c : Dev nD) : (dats m 0 c).arrAt 6 cfg0.N = expected m c := by
  refine (dats m 0 c).arrAt_eq_of_emb 6 (expected m c) (fun t _ (y : S1024x1024.Idx) => ?_) (fun (i : S32768x1024.Idx) => ?_)
  · have ht : t.val < 32 := t.isLt
    have ey : y = (ix2 (y 0) (y 1) : S1024x1024.Idx) := funext fun a => by fin_cases a <;> rfl
    have hv : (dats m 0 c).flushed 6 t y = written m c t (ix2 (y 0) (y 1)) := (flushed_eq m c t y).trans (congrArg (written m c t) ey)
    have he : ((cfg0.win 6).blk t).view.emb y = ix2 (⟨t.val * 1024 + (y 0).val, by have := (y 0).isLt; change (y 0).val < 1024 at this; omega⟩ : Fin 32768) (y 1) :=
      (congrArg ((cfg0.win 6).blk t).view.emb ey).trans (emb6 t ht (y 0) (y 1))
    exact (hv.trans (written_apply m c t ht (y 0) (y 1))).trans (congrArg (expected m c) he.symm)
  · have h0 : (i 0).val < 32768 := (i 0).isLt
    have h1 : (i 1).val < 1024 := (i 1).isLt
    have ht : (i 0).val / 1024 < 32 := by omega
    let t : Fin cfg0.N := ⟨(i 0).val / 1024, ht⟩
    have e : (ix2 (⟨t.val * 1024 + (i 0).val % 1024, by show (i 0).val / 1024 * 1024 + (i 0).val % 1024 < 32768; omega⟩ : Fin 32768) (⟨(i 1).val, h1⟩ : Fin 1024) : S32768x1024.Idx) = i := by
      refine funext fun a => Fin.ext ?_
      fin_cases a
      · show (i 0).val / 1024 * 1024 + (i 0).val % 1024 = (i 0).val; omega
      · rfl
    have hm : ((cfg0.win 6).blk t).view.emb (ix2 (⟨(i 0).val % 1024, by omega⟩ : Fin 1024) (⟨(i 1).val, h1⟩ : Fin 1024))
        ∈ ((cfg0.win 6).blk t).view.set := View.emb_mem_set _ _
    have hm' := (emb6 t ht ⟨(i 0).val % 1024, by omega⟩ ⟨(i 1).val, h1⟩).trans e
    exact ⟨t, flush6 t, (congrArg (fun x => x ∈ ((cfg0.win 6).blk t).view.set) hm').mp hm⟩

end Cert.Proof.Dense

end
-- ==== Proof.lean ====
/-
  The claims: about the routed experts call from the run of Experts/Launch.lean, about the dense feed-forward, the input
  projection and the output projection from their generated runs, each against the generated run of its reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routed
public import proofs.«01_k».proof.Proof.Experts.Launch
public import proofs.«01_k».proof.Proof.Experts.Value
public import proofs.«01_k».proof.Proof.Experts.RefValue
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Value
public import proofs.«01_k».proof.Proof.Gen.Reference5Ideal.Run
public import proofs.«01_k».proof.Proof.InProj.Value
public import proofs.«01_k».proof.Proof.OutProj.Value
public import proofs.«01_k».proof.Proof.OutProj.Routed
public import proofs.«01_k».proof.Proof.Dense.Value
public import proofs.«01_k».proof.Proof.Dense.RefValue
public import Idealize.ShloMosaic.Adequacy
public import Idealize.ShloMosaic.Init

@[expose] public section

noncomputable section

namespace Cert.Proof

open Idealize.ShloMosaic Idealize.ShloMosaic.TcCoe Idealize.SL.Sem

/-! The kernel and its reading at the extended reals are one program: the body tables are equal at any one float values. -/

set_option maxHeartbeats 1000000 in
theorem defs₀_eq : Cert.Kernel.defs₀ (F := Bits) = Cert.KernelIdeal.defs₀ (F := Bits) := by
  refine congrArg Defs.onTc (funext fun l => ?_)
  match l with
  | ⟨0, _⟩ => exact funext fun x => rfl

set_option maxHeartbeats 1000000 in
theorem defs_eq : Cert.Kernel.defs (F := Bits) = Cert.KernelIdeal.defs (F := Bits) :=
  congrArg (Pipeline.defs (Cert.KernelIdeal.pcfgs (F := Bits))) defs₀_eq

theorem routed_kernel (m : (ℓ : Loc Cert.Kernel.nD Cert.Kernel.τ Cert.Kernel.sig) → Buf (Elt Bits) ℓ)
    (hp : Cert.Pre_Kernel m) : Experts.Routed (F := Bits) m :=
  fun c => Experts.routed_of_fn _ _ _ _ _ _ _ (hp c)

/-- The frame of the kernel: the one run, at the bit-exact float values. -/
theorem frame_kernel : Cert.quiescent_Kernel := by
  intro m ρ hp
  rw [defs_eq]
  have h := Experts.run_main (F := Bits) m ρ (routed_kernel m hp)
  exact (θ_run Cert.KernelIdeal.defs _ _).mono (fun r (hr : (∀ c, Experts.QC (F := Bits) m ρ _ c r.2) ∧ _) =>
    ⟨fun c => (hr.1 c).2, hr.2⟩) h

theorem frame_kernelIdeal : Cert.quiescent_KernelIdeal := fun m ρ hp =>
  (θ_run Cert.KernelIdeal.defs _ _).mono (fun _ h => ⟨fun c => (h.1 c).2, h.2⟩)
    (Experts.run_main (F := Ideal) m ρ fun c => Experts.routed_of_fn _ _ _ _ _ _ _ (hp c))

theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The reference's result, from a memory that agrees with the kernel's on the arguments. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ok : Experts.Routed (F := Ideal) m) (c : Dev Cert.KernelIdeal.nD)
    (h0 : m' ((c.tc : Thread Cert.ReferenceIdeal.nD Cert.ReferenceIdeal.τ).loc Cert.ReferenceIdeal.main_arg0) = Experts.x1W m c)
    (h1 : m' ((c.tc : Thread Cert.ReferenceIdeal.nD Cert.ReferenceIdeal.τ).loc Cert.ReferenceIdeal.main_arg1) = Experts.src0 m c)
    (h2 : m' ((c.tc : Thread Cert.ReferenceIdeal.nD Cert.ReferenceIdeal.τ).loc Cert.ReferenceIdeal.main_arg2) = Experts.te0 m c)
    (h3 : m' ((c.tc : Thread Cert.ReferenceIdeal.nD Cert.ReferenceIdeal.τ).loc Cert.ReferenceIdeal.main_arg3) = Experts.nv0 m c)
    (h4 : m' ((c.tc : Thread Cert.ReferenceIdeal.nD Cert.ReferenceIdeal.τ).loc Cert.ReferenceIdeal.main_arg4) = Experts.gW m c)
    (h5 : m' ((c.tc : Thread Cert.ReferenceIdeal.nD Cert.ReferenceIdeal.τ).loc Cert.ReferenceIdeal.main_arg5) = Experts.uW m c)
    (h6 : m' ((c.tc : Thread Cert.ReferenceIdeal.nD Cert.ReferenceIdeal.τ).loc Cert.ReferenceIdeal.main_arg6) = Experts.dW m c) :
    Cert.ReferenceIdeal.Value.res_main_v152 (StableHlo.launchContents m' c) = Experts.expected m c := by
  have hs : Experts.Reference.src (StableHlo.launchContents m' c) = Experts.src0 m c := h1
  have he : Experts.Reference.te (StableHlo.launchContents m' c) = Experts.te0 m c := h2
  refine (Experts.Reference.reference_eq (StableHlo.launchContents m' c) (fun x => ?_) (fun x => ?_)).trans ?_
  · rw [hs]; exact (ok c).src x
  · rw [he]; exact (ok c).expert x
  · have hx : Experts.Reference.X1 (StableHlo.launchContents m' c) = Experts.x1W m c := h0
    have hn : Experts.Reference.nv (StableHlo.launchContents m' c) = Experts.nv0 m c := h3
    have hg : StableHlo.launchContents m' c (Proc.devRef .tc Cert.ReferenceIdeal.main_arg4) = Experts.gW m c := h4
    have hu : StableHlo.launchContents m' c (Proc.devRef .tc Cert.ReferenceIdeal.main_arg5) = Experts.uW m c := h5
    have hd : StableHlo.launchContents m' c (Proc.devRef .tc Cert.ReferenceIdeal.main_arg6) = Experts.dW m c := h6
    rw [hs, he, hx, hn, hg, hu, hd]
    rfl

/-- Kernel and reference compute the same array. -/
theorem algebraic : Cert.algebraic_KernelIdeal_ReferenceIdeal := by
  intro m ρ m' ρ' hp hm
  have ok : Experts.Routed (F := Ideal) m := fun c => Experts.routed_of_fn _ _ _ _ _ _ _ (hp c)
  refine ⟨fun c => Experts.expected m c, ?_, ?_⟩
  · exact (θ_run Cert.KernelIdeal.defs _ _).mono (fun _ h c => ⟨(h.1 c).1.trans (Experts.result_eq m ρ ok c), (h.1 c).2⟩)
      (Experts.run_main (F := Ideal) m ρ ok)
  · refine (θ_run Cert.ReferenceIdeal.defs _ _).mono (fun _ h c => ⟨(h c).1.trans ?_, (h c).2⟩) (Cert.ReferenceIdeal.Value.run m' ρ')
    obtain ⟨h0, h1, h2, h3, h4, h5, h6⟩ := hm c
    exact reference_result m m' ok c h0 h1 h2 h3 h4 h5 h6

/-! ## The dense feed-forward -/

theorem frame_dense : Cert.quiescent_Kernel2 := fun m ρ _ => Cert.Kernel2.Gen.frame m ρ

theorem frame_denseIdeal : Cert.quiescent_Kernel2Ideal := fun m ρ _ => Cert.Kernel2Ideal.Gen.frame m ρ

theorem frame_denseReference : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem algebraic_dense : Cert.algebraic_Kernel2Ideal_Reference2Ideal := by
  intro m ρ m' ρ' _ hm
  refine ⟨fun c => Dense.expected m c, ?_, ?_⟩
  · exact (θ_run Cert.Kernel2Ideal.defs _ _).mono (fun _ h c => ⟨(h c).1.trans (Dense.result_eq m c), (h c).2⟩)
      (Cert.Kernel2Ideal.Value.run_blocks m ρ)
  · refine (θ_run Cert.Reference2Ideal.defs _ _).mono (fun _ h c => ⟨(h c).1.trans ?_, (h c).2⟩) (Cert.Reference2Ideal.Value.run m' ρ')
    obtain ⟨h0, h1, h2, h3, h4, h5⟩ := hm c
    refine (Dense.Reference.reference_eq m' c).trans ?_
    have e0 : m' ((c.tc : Thread Cert.Reference2Ideal.nD Cert.Reference2Ideal.τ).loc Cert.Reference2Ideal.main_arg0) = Dense.xW m c := h0
    have e1 : m' ((c.tc : Thread Cert.Reference2Ideal.nD Cert.Reference2Ideal.τ).loc Cert.Reference2Ideal.main_arg1) = Dense.gW m c := h1
    have e2 : m' ((c.tc : Thread Cert.Reference2Ideal.nD Cert.Reference2Ideal.τ).loc Cert.Reference2Ideal.main_arg2) = Dense.uW m c := h2
    have e3 : m' ((c.tc : Thread Cert.Reference2Ideal.nD Cert.Reference2Ideal.τ).loc Cert.Reference2Ideal.main_arg3) = Dense.dW m c := h3
    have e4 : m' ((c.tc : Thread Cert.Reference2Ideal.nD Cert.Reference2Ideal.τ).loc Cert.Reference2Ideal.main_arg4) = Dense.lgW m c := h4
    have e5 : m' ((c.tc : Thread Cert.Reference2Ideal.nD Cert.Reference2Ideal.τ).loc Cert.Reference2Ideal.main_arg5) = Dense.lbW m c := h5
    rw [e0, e1, e2, e3, e4, e5]
    rfl

/-! ## The input projection -/

theorem frame_inProj : Cert.quiescent_Kernel3 := fun m ρ _ => Cert.Kernel3.Gen.frame m ρ

theorem frame_inProjIdeal : Cert.quiescent_Kernel3Ideal := fun m ρ _ => Cert.Kernel3Ideal.Gen.frame m ρ

theorem frame_inProjReference : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

theorem algebraic_inProj : Cert.algebraic_Kernel3Ideal_Reference3Ideal := by
  intro m ρ m' ρ' _ hm
  refine ⟨fun c => InProj.expected m c, ?_, ?_⟩
  · exact (θ_run Cert.Kernel3Ideal.defs _ _).mono (fun _ h c => ⟨(h c).1.trans (InProj.result_eq m c), (h c).2⟩)
      (Cert.Kernel3Ideal.Value.run_blocks m ρ)
  · refine (θ_run Cert.Reference3Ideal.defs _ _).mono (fun _ h c => ⟨(h c).1.trans ?_, (h c).2⟩) (Cert.Reference3Ideal.Value.run m' ρ')
    obtain ⟨h0, h1⟩ := hm c
    have e0 : m' ((c.tc : Thread Cert.Reference3Ideal.nD Cert.Reference3Ideal.τ).loc Cert.Reference3Ideal.main_arg0) = InProj.xW m c := h0
    have e1 : m' ((c.tc : Thread Cert.Reference3Ideal.nD Cert.Reference3Ideal.τ).loc Cert.Reference3Ideal.main_arg1) = InProj.wW m c := h1
    rw [e0, e1]
    exact funext fun i => InProj.reference_eq _ _ i

/-! ## The output projection -/

theorem frame_outProj : Cert.quiescent_Kernel4 := fun m ρ _ => Cert.Kernel4.Gen.frame m ρ

theorem frame_outProjIdeal : Cert.quiescent_Kernel4Ideal := fun m ρ _ => Cert.Kernel4Ideal.Gen.frame m ρ

theorem frame_outProjReference : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

theorem algebraic_outProj : Cert.algebraic_Kernel4Ideal_Reference4Ideal := by
  intro m ρ m' ρ' _ hm
  refine ⟨fun c => OutProj.expected m c, ?_, ?_⟩
  · exact (θ_run Cert.Kernel4Ideal.defs _ _).mono (fun _ h c => ⟨(h c).1.trans (OutProj.result_eq m c), (h c).2⟩)
      (Cert.Kernel4Ideal.Value.run_blocks m ρ)
  · refine (θ_run Cert.Reference4Ideal.defs _ _).mono (fun _ h c => ⟨(h c).1.trans ?_, (h c).2⟩) (Cert.Reference4Ideal.Value.run m' ρ')
    obtain ⟨h0, h1, h2, h3, h4, h5⟩ := hm c
    exact OutProj.reference_eq m' c _ _ _ _ _ _ h0 h1 h2 h3 h4 h5

/-! And for the routed layer's output projection, its first result. -/

theorem frame_routedProj : Cert.quiescent_Kernel5 := fun m ρ _ => Cert.Kernel5.Gen.frame m ρ

theorem frame_routedProjIdeal : Cert.quiescent_Kernel5Ideal := fun m ρ _ => Cert.Kernel5Ideal.Gen.frame m ρ

theorem frame_routedProjReference : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

theorem algebraic_routedProj : Cert.algebraic_Kernel5Ideal_Reference5Ideal := by
  intro m ρ m' ρ' _ hm
  refine ⟨fun c => OutProj.Routed.expected m c, ?_, ?_⟩
  · exact (θ_run Cert.Kernel5Ideal.defs _ _).mono (fun _ h c => ⟨(h c).1.trans (OutProj.Routed.result_eq m c), (h c).2.2.2.2⟩)
      (Cert.Kernel5Ideal.Value.run_blocks m ρ)
  · refine (θ_run Cert.Reference5Ideal.defs _ _).mono (fun _ h c => ⟨(h c).1.trans ?_, (h c).2⟩) (Cert.Reference5Ideal.Value.run m' ρ')
    obtain ⟨h0, h1, h2, h3, h4, h5, _⟩ := hm c
    exact OutProj.Routed.reference_eq m' c _ _ _ _ _ _ h0 h1 h2 h3 h4 h5

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_routed.Gen.facts,
  frame_kernel, frame_kernelIdeal, frame_reference, frame_dense, frame_denseIdeal, frame_denseReference,
  frame_inProj, frame_inProjIdeal, frame_inProjReference, frame_outProj, frame_outProjIdeal, frame_outProjReference,
  frame_routedProj, frame_routedProjIdeal, frame_routedProjReference,
  trivial, algebraic, trivial, algebraic_dense, trivial, algebraic_inProj,
  trivial, algebraic_outProj, trivial, algebraic_routedProj⟩

end Cert.Proof

end
